-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_Smix (m : (ℓ : Loc Cert.Smix.nD Cert.Smix.τ Cert.Smix.sig) → Buf (Elt Bits) ℓ) : Prop :=
  True

def Pre_SmixIdeal (m : (ℓ : Loc Cert.SmixIdeal.nD Cert.SmixIdeal.τ Cert.SmixIdeal.sig) → Buf (Elt Ideal) ℓ) : Prop :=
  True

def Pre_SmixRefIdeal (m : (ℓ : Loc Cert.SmixRefIdeal.nD Cert.SmixRefIdeal.τ Cert.SmixRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_Smix [hSmix : Cert.Smix.Facts] : Prop :=
  ∀ (m : (ℓ : Loc Cert.Smix.nD Cert.Smix.τ Cert.Smix.sig) → Buf (Elt Bits) ℓ) (g : Dev Cert.Smix.nD → PrngReg), Pre_Smix m →
    θ_run (Cert.Smix.defs (F := Bits)) (onTc (τ := Cert.Smix.τ) (Cert.Smix.main (F := Bits))) ⟨m, fun _ => 0, g⟩ (fun r => (∀ c : Dev Cert.Smix.nD,
      r.2.mem ((c.tc : Thread Cert.Smix.nD Cert.Smix.τ).loc Cert.Smix.main_arg0) = m ((c.tc : Thread Cert.Smix.nD Cert.Smix.τ).loc Cert.Smix.main_arg0)
      ∧ r.2.mem ((c.tc : Thread Cert.Smix.nD Cert.Smix.τ).loc Cert.Smix.main_arg1) = m ((c.tc : Thread Cert.Smix.nD Cert.Smix.τ).loc Cert.Smix.main_arg1)
      ∧ r.2.mem ((c.tc : Thread Cert.Smix.nD Cert.Smix.τ).loc Cert.Smix.main_arg2) = m ((c.tc : Thread Cert.Smix.nD Cert.Smix.τ).loc Cert.Smix.main_arg2)
      ∧ r.2.mem ((c.tc : Thread Cert.Smix.nD Cert.Smix.τ).loc Cert.Smix.main_arg3) = m ((c.tc : Thread Cert.Smix.nD Cert.Smix.τ).loc Cert.Smix.main_arg3)
      ∧ r.2.mem ((c.tc : Thread Cert.Smix.nD Cert.Smix.τ).loc Cert.Smix.main_arg4) = m ((c.tc : Thread Cert.Smix.nD Cert.Smix.τ).loc Cert.Smix.main_arg4)
      ∧ r.2.mem ((c.tc : Thread Cert.Smix.nD Cert.Smix.τ).loc Cert.Smix.main_arg5) = m ((c.tc : Thread Cert.Smix.nD Cert.Smix.τ).loc Cert.Smix.main_arg5)
      ∧ r.2.mem ((c.tc : Thread Cert.Smix.nD Cert.Smix.τ).loc Cert.Smix.main_arg6) = m ((c.tc : Thread Cert.Smix.nD Cert.Smix.τ).loc Cert.Smix.main_arg6)
      ∧ r.2.mem ((c.tc : Thread Cert.Smix.nD Cert.Smix.τ).loc Cert.Smix.main_arg7) = m ((c.tc : Thread Cert.Smix.nD Cert.Smix.τ).loc Cert.Smix.main_arg7)
      ∧ r.2.mem ((c.tc : Thread Cert.Smix.nD Cert.Smix.τ).loc Cert.Smix.main_arg8) = m ((c.tc : Thread Cert.Smix.nD Cert.Smix.τ).loc Cert.Smix.main_arg8)
      ∧ r.2.mem ((c.tc : Thread Cert.Smix.nD Cert.Smix.τ).loc Cert.Smix.main_arg9) = m ((c.tc : Thread Cert.Smix.nD Cert.Smix.τ).loc Cert.Smix.main_arg9)
      ∧ r.2.mem ((c.tc : Thread Cert.Smix.nD Cert.Smix.τ).loc Cert.Smix.main_arg10) = m ((c.tc : Thread Cert.Smix.nD Cert.Smix.τ).loc Cert.Smix.main_arg10)
      ∧ r.2.mem ((c.tc : Thread Cert.Smix.nD Cert.Smix.τ).loc Cert.Smix.main_arg11) = m ((c.tc : Thread Cert.Smix.nD Cert.Smix.τ).loc Cert.Smix.main_arg11)
      ∧ r.2.mem ((c.tc : Thread Cert.Smix.nD Cert.Smix.τ).loc Cert.Smix.main_arg12) = m ((c.tc : Thread Cert.Smix.nD Cert.Smix.τ).loc Cert.Smix.main_arg12)
      ∧ r.2.mem ((c.tc : Thread Cert.Smix.nD Cert.Smix.τ).loc Cert.Smix.main_arg13) = m ((c.tc : Thread Cert.Smix.nD Cert.Smix.τ).loc Cert.Smix.main_arg13)
      ∧ r.2.mem ((c.tc : Thread Cert.Smix.nD Cert.Smix.τ).loc Cert.Smix.main_arg14) = m ((c.tc : Thread Cert.Smix.nD Cert.Smix.τ).loc Cert.Smix.main_arg14)
      ∧ r.2.mem ((c.tc : Thread Cert.Smix.nD Cert.Smix.τ).loc Cert.Smix.main_arg15) = m ((c.tc : Thread Cert.Smix.nD Cert.Smix.τ).loc Cert.Smix.main_arg15)
      ∧ r.2.mem ((c.tc : Thread Cert.Smix.nD Cert.Smix.τ).loc Cert.Smix.main_arg16) = m ((c.tc : Thread Cert.Smix.nD Cert.Smix.τ).loc Cert.Smix.main_arg16))
      ∧ r.2.sem = fun _ => 0)

def quiescent_SmixIdeal [hSmixIdeal : Cert.SmixIdeal.Facts] : Prop :=
  ∀ (m : (ℓ : Loc Cert.SmixIdeal.nD Cert.SmixIdeal.τ Cert.SmixIdeal.sig) → Buf (Elt Ideal) ℓ) (g : Dev Cert.SmixIdeal.nD → PrngReg), Pre_SmixIdeal m →
    θ_run (Cert.SmixIdeal.defs (F := Ideal)) (onTc (τ := Cert.SmixIdeal.τ) (Cert.SmixIdeal.main (F := Ideal))) ⟨m, fun _ => 0, g⟩ (fun r => (∀ c : Dev Cert.SmixIdeal.nD,
      r.2.mem ((c.tc : Thread Cert.SmixIdeal.nD Cert.SmixIdeal.τ).loc Cert.SmixIdeal.main_arg0) = m ((c.tc : Thread Cert.SmixIdeal.nD Cert.SmixIdeal.τ).loc Cert.SmixIdeal.main_arg0)
      ∧ r.2.mem ((c.tc : Thread Cert.SmixIdeal.nD Cert.SmixIdeal.τ).loc Cert.SmixIdeal.main_arg1) = m ((c.tc : Thread Cert.SmixIdeal.nD Cert.SmixIdeal.τ).loc Cert.SmixIdeal.main_arg1)
      ∧ r.2.mem ((c.tc : Thread Cert.SmixIdeal.nD Cert.SmixIdeal.τ).loc Cert.SmixIdeal.main_arg2) = m ((c.tc : Thread Cert.SmixIdeal.nD Cert.SmixIdeal.τ).loc Cert.SmixIdeal.main_arg2)
      ∧ r.2.mem ((c.tc : Thread Cert.SmixIdeal.nD Cert.SmixIdeal.τ).loc Cert.SmixIdeal.main_arg3) = m ((c.tc : Thread Cert.SmixIdeal.nD Cert.SmixIdeal.τ).loc Cert.SmixIdeal.main_arg3)
      ∧ r.2.mem ((c.tc : Thread Cert.SmixIdeal.nD Cert.SmixIdeal.τ).loc Cert.SmixIdeal.main_arg4) = m ((c.tc : Thread Cert.SmixIdeal.nD Cert.SmixIdeal.τ).loc Cert.SmixIdeal.main_arg4)
      ∧ r.2.mem ((c.tc : Thread Cert.SmixIdeal.nD Cert.SmixIdeal.τ).loc Cert.SmixIdeal.main_arg5) = m ((c.tc : Thread Cert.SmixIdeal.nD Cert.SmixIdeal.τ).loc Cert.SmixIdeal.main_arg5)
      ∧ r.2.mem ((c.tc : Thread Cert.SmixIdeal.nD Cert.SmixIdeal.τ).loc Cert.SmixIdeal.main_arg6) = m ((c.tc : Thread Cert.SmixIdeal.nD Cert.SmixIdeal.τ).loc Cert.SmixIdeal.main_arg6)
      ∧ r.2.mem ((c.tc : Thread Cert.SmixIdeal.nD Cert.SmixIdeal.τ).loc Cert.SmixIdeal.main_arg7) = m ((c.tc : Thread Cert.SmixIdeal.nD Cert.SmixIdeal.τ).loc Cert.SmixIdeal.main_arg7)
      ∧ r.2.mem ((c.tc : Thread Cert.SmixIdeal.nD Cert.SmixIdeal.τ).loc Cert.SmixIdeal.main_arg8) = m ((c.tc : Thread Cert.SmixIdeal.nD Cert.SmixIdeal.τ).loc Cert.SmixIdeal.main_arg8)
      ∧ r.2.mem ((c.tc : Thread Cert.SmixIdeal.nD Cert.SmixIdeal.τ).loc Cert.SmixIdeal.main_arg9) = m ((c.tc : Thread Cert.SmixIdeal.nD Cert.SmixIdeal.τ).loc Cert.SmixIdeal.main_arg9)
      ∧ r.2.mem ((c.tc : Thread Cert.SmixIdeal.nD Cert.SmixIdeal.τ).loc Cert.SmixIdeal.main_arg10) = m ((c.tc : Thread Cert.SmixIdeal.nD Cert.SmixIdeal.τ).loc Cert.SmixIdeal.main_arg10)
      ∧ r.2.mem ((c.tc : Thread Cert.SmixIdeal.nD Cert.SmixIdeal.τ).loc Cert.SmixIdeal.main_arg11) = m ((c.tc : Thread Cert.SmixIdeal.nD Cert.SmixIdeal.τ).loc Cert.SmixIdeal.main_arg11)
      ∧ r.2.mem ((c.tc : Thread Cert.SmixIdeal.nD Cert.SmixIdeal.τ).loc Cert.SmixIdeal.main_arg12) = m ((c.tc : Thread Cert.SmixIdeal.nD Cert.SmixIdeal.τ).loc Cert.SmixIdeal.main_arg12)
      ∧ r.2.mem ((c.tc : Thread Cert.SmixIdeal.nD Cert.SmixIdeal.τ).loc Cert.SmixIdeal.main_arg13) = m ((c.tc : Thread Cert.SmixIdeal.nD Cert.SmixIdeal.τ).loc Cert.SmixIdeal.main_arg13)
      ∧ r.2.mem ((c.tc : Thread Cert.SmixIdeal.nD Cert.SmixIdeal.τ).loc Cert.SmixIdeal.main_arg14) = m ((c.tc : Thread Cert.SmixIdeal.nD Cert.SmixIdeal.τ).loc Cert.SmixIdeal.main_arg14)
      ∧ r.2.mem ((c.tc : Thread Cert.SmixIdeal.nD Cert.SmixIdeal.τ).loc Cert.SmixIdeal.main_arg15) = m ((c.tc : Thread Cert.SmixIdeal.nD Cert.SmixIdeal.τ).loc Cert.SmixIdeal.main_arg15)
      ∧ r.2.mem ((c.tc : Thread Cert.SmixIdeal.nD Cert.SmixIdeal.τ).loc Cert.SmixIdeal.main_arg16) = m ((c.tc : Thread Cert.SmixIdeal.nD Cert.SmixIdeal.τ).loc Cert.SmixIdeal.main_arg16))
      ∧ r.2.sem = fun _ => 0)

def quiescent_SmixRefIdeal [hSmixRefIdeal : Cert.SmixRefIdeal.Facts] : Prop :=
  ∀ (m : (ℓ : Loc Cert.SmixRefIdeal.nD Cert.SmixRefIdeal.τ Cert.SmixRefIdeal.sig) → Buf (Elt Ideal) ℓ) (g : Dev Cert.SmixRefIdeal.nD → PrngReg), Pre_SmixRefIdeal m →
    θ_run (Cert.SmixRefIdeal.defs (F := Ideal)) (onTc (τ := Cert.SmixRefIdeal.τ) (Cert.SmixRefIdeal.main (F := Ideal))) ⟨m, fun _ => 0, g⟩ (fun r => (∀ c : Dev Cert.SmixRefIdeal.nD,
      r.2.mem ((c.tc : Thread Cert.SmixRefIdeal.nD Cert.SmixRefIdeal.τ).loc Cert.SmixRefIdeal.main_arg0) = m ((c.tc : Thread Cert.SmixRefIdeal.nD Cert.SmixRefIdeal.τ).loc Cert.SmixRefIdeal.main_arg0)
      ∧ r.2.mem ((c.tc : Thread Cert.SmixRefIdeal.nD Cert.SmixRefIdeal.τ).loc Cert.SmixRefIdeal.main_arg1) = m ((c.tc : Thread Cert.SmixRefIdeal.nD Cert.SmixRefIdeal.τ).loc Cert.SmixRefIdeal.main_arg1)
      ∧ r.2.mem ((c.tc : Thread Cert.SmixRefIdeal.nD Cert.SmixRefIdeal.τ).loc Cert.SmixRefIdeal.main_arg2) = m ((c.tc : Thread Cert.SmixRefIdeal.nD Cert.SmixRefIdeal.τ).loc Cert.SmixRefIdeal.main_arg2)
      ∧ r.2.mem ((c.tc : Thread Cert.SmixRefIdeal.nD Cert.SmixRefIdeal.τ).loc Cert.SmixRefIdeal.main_arg3) = m ((c.tc : Thread Cert.SmixRefIdeal.nD Cert.SmixRefIdeal.τ).loc Cert.SmixRefIdeal.main_arg3)
      ∧ r.2.mem ((c.tc : Thread Cert.SmixRefIdeal.nD Cert.SmixRefIdeal.τ).loc Cert.SmixRefIdeal.main_arg4) = m ((c.tc : Thread Cert.SmixRefIdeal.nD Cert.SmixRefIdeal.τ).loc Cert.SmixRefIdeal.main_arg4)
      ∧ r.2.mem ((c.tc : Thread Cert.SmixRefIdeal.nD Cert.SmixRefIdeal.τ).loc Cert.SmixRefIdeal.main_arg5) = m ((c.tc : Thread Cert.SmixRefIdeal.nD Cert.SmixRefIdeal.τ).loc Cert.SmixRefIdeal.main_arg5)
      ∧ r.2.mem ((c.tc : Thread Cert.SmixRefIdeal.nD Cert.SmixRefIdeal.τ).loc Cert.SmixRefIdeal.main_arg6) = m ((c.tc : Thread Cert.SmixRefIdeal.nD Cert.SmixRefIdeal.τ).loc Cert.SmixRefIdeal.main_arg6)
      ∧ r.2.mem ((c.tc : Thread Cert.SmixRefIdeal.nD Cert.SmixRefIdeal.τ).loc Cert.SmixRefIdeal.main_arg7) = m ((c.tc : Thread Cert.SmixRefIdeal.nD Cert.SmixRefIdeal.τ).loc Cert.SmixRefIdeal.main_arg7)
      ∧ r.2.mem ((c.tc : Thread Cert.SmixRefIdeal.nD Cert.SmixRefIdeal.τ).loc Cert.SmixRefIdeal.main_arg8) = m ((c.tc : Thread Cert.SmixRefIdeal.nD Cert.SmixRefIdeal.τ).loc Cert.SmixRefIdeal.main_arg8)
      ∧ r.2.mem ((c.tc : Thread Cert.SmixRefIdeal.nD Cert.SmixRefIdeal.τ).loc Cert.SmixRefIdeal.main_arg9) = m ((c.tc : Thread Cert.SmixRefIdeal.nD Cert.SmixRefIdeal.τ).loc Cert.SmixRefIdeal.main_arg9)
      ∧ r.2.mem ((c.tc : Thread Cert.SmixRefIdeal.nD Cert.SmixRefIdeal.τ).loc Cert.SmixRefIdeal.main_arg10) = m ((c.tc : Thread Cert.SmixRefIdeal.nD Cert.SmixRefIdeal.τ).loc Cert.SmixRefIdeal.main_arg10)
      ∧ r.2.mem ((c.tc : Thread Cert.SmixRefIdeal.nD Cert.SmixRefIdeal.τ).loc Cert.SmixRefIdeal.main_arg11) = m ((c.tc : Thread Cert.SmixRefIdeal.nD Cert.SmixRefIdeal.τ).loc Cert.SmixRefIdeal.main_arg11)
      ∧ r.2.mem ((c.tc : Thread Cert.SmixRefIdeal.nD Cert.SmixRefIdeal.τ).loc Cert.SmixRefIdeal.main_arg12) = m ((c.tc : Thread Cert.SmixRefIdeal.nD Cert.SmixRefIdeal.τ).loc Cert.SmixRefIdeal.main_arg12)
      ∧ r.2.mem ((c.tc : Thread Cert.SmixRefIdeal.nD Cert.SmixRefIdeal.τ).loc Cert.SmixRefIdeal.main_arg13) = m ((c.tc : Thread Cert.SmixRefIdeal.nD Cert.SmixRefIdeal.τ).loc Cert.SmixRefIdeal.main_arg13)
      ∧ r.2.mem ((c.tc : Thread Cert.SmixRefIdeal.nD Cert.SmixRefIdeal.τ).loc Cert.SmixRefIdeal.main_arg14) = m ((c.tc : Thread Cert.SmixRefIdeal.nD Cert.SmixRefIdeal.τ).loc Cert.SmixRefIdeal.main_arg14)
      ∧ r.2.mem ((c.tc : Thread Cert.SmixRefIdeal.nD Cert.SmixRefIdeal.τ).loc Cert.SmixRefIdeal.main_arg15) = m ((c.tc : Thread Cert.SmixRefIdeal.nD Cert.SmixRefIdeal.τ).loc Cert.SmixRefIdeal.main_arg15)
      ∧ r.2.mem ((c.tc : Thread Cert.SmixRefIdeal.nD Cert.SmixRefIdeal.τ).loc Cert.SmixRefIdeal.main_arg16) = m ((c.tc : Thread Cert.SmixRefIdeal.nD Cert.SmixRefIdeal.τ).loc Cert.SmixRefIdeal.main_arg16))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v54_0)) (v1 : (c : Dev Cert.ProjIdeal.nD) → Buf (Elt Ideal) ((c.tc : Thread Cert.ProjIdeal.nD Cert.ProjIdeal.τ).loc Cert.ProjIdeal.main_v54_1)) (v2 : (c : Dev Cert.ProjIdeal.nD) → Buf (Elt Ideal) ((c.tc : Thread Cert.ProjIdeal.nD Cert.ProjIdeal.τ).loc Cert.ProjIdeal.main_v54_2)) (v3 : (c : Dev Cert.ProjIdeal.nD) → Buf (Elt Ideal) ((c.tc : Thread Cert.ProjIdeal.nD Cert.ProjIdeal.τ).loc Cert.ProjIdeal.main_v54_3)) (v4 : (c : Dev Cert.ProjIdeal.nD) → Buf (Elt Ideal) ((c.tc : Thread Cert.ProjIdeal.nD Cert.ProjIdeal.τ).loc Cert.ProjIdeal.main_v54_4)) (v5 : (c : Dev Cert.ProjIdeal.nD) → Buf (Elt Ideal) ((c.tc : Thread Cert.ProjIdeal.nD Cert.ProjIdeal.τ).loc Cert.ProjIdeal.main_v54_5)) (v6 : (c : Dev Cert.ProjIdeal.nD) → Buf (Elt Ideal) ((c.tc : Thread Cert.ProjIdeal.nD Cert.ProjIdeal.τ).loc Cert.ProjIdeal.main_v54_6)) (v7 : (c : Dev Cert.ProjIdeal.nD) → Buf (Elt Ideal) ((c.tc : Thread Cert.ProjIdeal.nD Cert.ProjIdeal.τ).loc Cert.ProjIdeal.main_v54_7)) (v8 : (c : Dev Cert.ProjIdeal.nD) → Buf (Elt Ideal) ((c.tc : Thread Cert.ProjIdeal.nD Cert.ProjIdeal.τ).loc Cert.ProjIdeal.main_v54_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v54_0) = v0 c
          ∧ r.2.mem ((c.tc : Thread Cert.ProjIdeal.nD Cert.ProjIdeal.τ).loc Cert.ProjIdeal.main_v54_1) = v1 c
          ∧ r.2.mem ((c.tc : Thread Cert.ProjIdeal.nD Cert.ProjIdeal.τ).loc Cert.ProjIdeal.main_v54_2) = v2 c
          ∧ r.2.mem ((c.tc : Thread Cert.ProjIdeal.nD Cert.ProjIdeal.τ).loc Cert.ProjIdeal.main_v54_3) = v3 c
          ∧ r.2.mem ((c.tc : Thread Cert.ProjIdeal.nD Cert.ProjIdeal.τ).loc Cert.ProjIdeal.main_v54_4) = v4 c
          ∧ r.2.mem ((c.tc : Thread Cert.ProjIdeal.nD Cert.ProjIdeal.τ).loc Cert.ProjIdeal.main_v54_5) = v5 c
          ∧ r.2.mem ((c.tc : Thread Cert.ProjIdeal.nD Cert.ProjIdeal.τ).loc Cert.ProjIdeal.main_v54_6) = v6 c
          ∧ r.2.mem ((c.tc : Thread Cert.ProjIdeal.nD Cert.ProjIdeal.τ).loc Cert.ProjIdeal.main_v54_7) = v7 c
          ∧ r.2.mem ((c.tc : Thread Cert.ProjIdeal.nD Cert.ProjIdeal.τ).loc Cert.ProjIdeal.main_v54_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v167) = v0 c
          ∧ r.2.mem ((c.tc : Thread Cert.ProjRefIdeal.nD Cert.ProjRefIdeal.τ).loc Cert.ProjRefIdeal.main_v168) = v1 c
          ∧ r.2.mem ((c.tc : Thread Cert.ProjRefIdeal.nD Cert.ProjRefIdeal.τ).loc Cert.ProjRefIdeal.main_v169) = v2 c
          ∧ r.2.mem ((c.tc : Thread Cert.ProjRefIdeal.nD Cert.ProjRefIdeal.τ).loc Cert.ProjRefIdeal.main_v170) = v3 c
          ∧ r.2.mem ((c.tc : Thread Cert.ProjRefIdeal.nD Cert.ProjRefIdeal.τ).loc Cert.ProjRefIdeal.main_v171) = v4 c
          ∧ r.2.mem ((c.tc : Thread Cert.ProjRefIdeal.nD Cert.ProjRefIdeal.τ).loc Cert.ProjRefIdeal.main_v172) = v5 c
          ∧ r.2.mem ((c.tc : Thread Cert.ProjRefIdeal.nD Cert.ProjRefIdeal.τ).loc Cert.ProjRefIdeal.main_v174) = v6 c
          ∧ r.2.mem ((c.tc : Thread Cert.ProjRefIdeal.nD Cert.ProjRefIdeal.τ).loc Cert.ProjRefIdeal.main_v176) = v7 c
          ∧ r.2.mem ((c.tc : Thread Cert.ProjRefIdeal.nD Cert.ProjRefIdeal.τ).loc Cert.ProjRefIdeal.main_v177) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v10)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v54_0)) (v1 : (c : Dev Cert.ProjSIdeal.nD) → Buf (Elt Ideal) ((c.tc : Thread Cert.ProjSIdeal.nD Cert.ProjSIdeal.τ).loc Cert.ProjSIdeal.main_v54_1)) (v2 : (c : Dev Cert.ProjSIdeal.nD) → Buf (Elt Ideal) ((c.tc : Thread Cert.ProjSIdeal.nD Cert.ProjSIdeal.τ).loc Cert.ProjSIdeal.main_v54_2)) (v3 : (c : Dev Cert.ProjSIdeal.nD) → Buf (Elt Ideal) ((c.tc : Thread Cert.ProjSIdeal.nD Cert.ProjSIdeal.τ).loc Cert.ProjSIdeal.main_v54_3)) (v4 : (c : Dev Cert.ProjSIdeal.nD) → Buf (Elt Ideal) ((c.tc : Thread Cert.ProjSIdeal.nD Cert.ProjSIdeal.τ).loc Cert.ProjSIdeal.main_v54_4)) (v5 : (c : Dev Cert.ProjSIdeal.nD) → Buf (Elt Ideal) ((c.tc : Thread Cert.ProjSIdeal.nD Cert.ProjSIdeal.τ).loc Cert.ProjSIdeal.main_v54_5)) (v6 : (c : Dev Cert.ProjSIdeal.nD) → Buf (Elt Ideal) ((c.tc : Thread Cert.ProjSIdeal.nD Cert.ProjSIdeal.τ).loc Cert.ProjSIdeal.main_v54_6)) (v7 : (c : Dev Cert.ProjSIdeal.nD) → Buf (Elt Ideal) ((c.tc : Thread Cert.ProjSIdeal.nD Cert.ProjSIdeal.τ).loc Cert.ProjSIdeal.main_v54_7)) (v8 : (c : Dev Cert.ProjSIdeal.nD) → Buf (Elt Ideal) ((c.tc : Thread Cert.ProjSIdeal.nD Cert.ProjSIdeal.τ).loc Cert.ProjSIdeal.main_v54_8)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v54_0) = v0 c
          ∧ r.2.mem ((c.tc : Thread Cert.ProjSIdeal.nD Cert.ProjSIdeal.τ).loc Cert.ProjSIdeal.main_v54_1) = v1 c
          ∧ r.2.mem ((c.tc : Thread Cert.ProjSIdeal.nD Cert.ProjSIdeal.τ).loc Cert.ProjSIdeal.main_v54_2) = v2 c
          ∧ r.2.mem ((c.tc : Thread Cert.ProjSIdeal.nD Cert.ProjSIdeal.τ).loc Cert.ProjSIdeal.main_v54_3) = v3 c
          ∧ r.2.mem ((c.tc : Thread Cert.ProjSIdeal.nD Cert.ProjSIdeal.τ).loc Cert.ProjSIdeal.main_v54_4) = v4 c
          ∧ r.2.mem ((c.tc : Thread Cert.ProjSIdeal.nD Cert.ProjSIdeal.τ).loc Cert.ProjSIdeal.main_v54_5) = v5 c
          ∧ r.2.mem ((c.tc : Thread Cert.ProjSIdeal.nD Cert.ProjSIdeal.τ).loc Cert.ProjSIdeal.main_v54_6) = v6 c
          ∧ r.2.mem ((c.tc : Thread Cert.ProjSIdeal.nD Cert.ProjSIdeal.τ).loc Cert.ProjSIdeal.main_v54_7) = v7 c
          ∧ r.2.mem ((c.tc : Thread Cert.ProjSIdeal.nD Cert.ProjSIdeal.τ).loc Cert.ProjSIdeal.main_v54_8) = v8 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v165) = v0 c
          ∧ r.2.mem ((c.tc : Thread Cert.ProjSRefIdeal.nD Cert.ProjSRefIdeal.τ).loc Cert.ProjSRefIdeal.main_v166) = v1 c
          ∧ r.2.mem ((c.tc : Thread Cert.ProjSRefIdeal.nD Cert.ProjSRefIdeal.τ).loc Cert.ProjSRefIdeal.main_v167) = v2 c
          ∧ r.2.mem ((c.tc : Thread Cert.ProjSRefIdeal.nD Cert.ProjSRefIdeal.τ).loc Cert.ProjSRefIdeal.main_v168) = v3 c
          ∧ r.2.mem ((c.tc : Thread Cert.ProjSRefIdeal.nD Cert.ProjSRefIdeal.τ).loc Cert.ProjSRefIdeal.main_v169) = v4 c
          ∧ r.2.mem ((c.tc : Thread Cert.ProjSRefIdeal.nD Cert.ProjSRefIdeal.τ).loc Cert.ProjSRefIdeal.main_v170) = v5 c
          ∧ r.2.mem ((c.tc : Thread Cert.ProjSRefIdeal.nD Cert.ProjSRefIdeal.τ).loc Cert.ProjSRefIdeal.main_v172) = v6 c
          ∧ r.2.mem ((c.tc : Thread Cert.ProjSRefIdeal.nD Cert.ProjSRefIdeal.τ).loc Cert.ProjSRefIdeal.main_v174) = v7 c
          ∧ r.2.mem ((c.tc : Thread Cert.ProjSRefIdeal.nD Cert.ProjSRefIdeal.τ).loc Cert.ProjSRefIdeal.main_v175) = v8 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v2)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v2) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v13) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_Smix_SmixIdeal : Prop :=
  True

def algebraic_SmixIdeal_SmixRefIdeal [hSmixIdeal : Cert.SmixIdeal.Facts] [hSmixRefIdeal : Cert.SmixRefIdeal.Facts] : Prop :=
  ∀ (m : (ℓ : Loc Cert.SmixIdeal.nD Cert.SmixIdeal.τ Cert.SmixIdeal.sig) → Buf (Elt Ideal) ℓ) (g : Dev Cert.SmixIdeal.nD → PrngReg)
    (m' : (ℓ : Loc Cert.SmixRefIdeal.nD Cert.SmixRefIdeal.τ Cert.SmixRefIdeal.sig) → Buf (Elt Ideal) ℓ) (g' : Dev Cert.SmixRefIdeal.nD → PrngReg), Pre_SmixIdeal m →
    (∀ c : Dev Cert.SmixIdeal.nD,
      m' ((c.tc : Thread Cert.SmixRefIdeal.nD Cert.SmixRefIdeal.τ).loc Cert.SmixRefIdeal.main_arg0) = m ((c.tc : Thread Cert.SmixIdeal.nD Cert.SmixIdeal.τ).loc Cert.SmixIdeal.main_arg0)
      ∧ m' ((c.tc : Thread Cert.SmixRefIdeal.nD Cert.SmixRefIdeal.τ).loc Cert.SmixRefIdeal.main_arg1) = m ((c.tc : Thread Cert.SmixIdeal.nD Cert.SmixIdeal.τ).loc Cert.SmixIdeal.main_arg1)
      ∧ m' ((c.tc : Thread Cert.SmixRefIdeal.nD Cert.SmixRefIdeal.τ).loc Cert.SmixRefIdeal.main_arg2) = m ((c.tc : Thread Cert.SmixIdeal.nD Cert.SmixIdeal.τ).loc Cert.SmixIdeal.main_arg2)
      ∧ m' ((c.tc : Thread Cert.SmixRefIdeal.nD Cert.SmixRefIdeal.τ).loc Cert.SmixRefIdeal.main_arg3) = m ((c.tc : Thread Cert.SmixIdeal.nD Cert.SmixIdeal.τ).loc Cert.SmixIdeal.main_arg3)
      ∧ m' ((c.tc : Thread Cert.SmixRefIdeal.nD Cert.SmixRefIdeal.τ).loc Cert.SmixRefIdeal.main_arg4) = m ((c.tc : Thread Cert.SmixIdeal.nD Cert.SmixIdeal.τ).loc Cert.SmixIdeal.main_arg4)
      ∧ m' ((c.tc : Thread Cert.SmixRefIdeal.nD Cert.SmixRefIdeal.τ).loc Cert.SmixRefIdeal.main_arg5) = m ((c.tc : Thread Cert.SmixIdeal.nD Cert.SmixIdeal.τ).loc Cert.SmixIdeal.main_arg5)
      ∧ m' ((c.tc : Thread Cert.SmixRefIdeal.nD Cert.SmixRefIdeal.τ).loc Cert.SmixRefIdeal.main_arg6) = m ((c.tc : Thread Cert.SmixIdeal.nD Cert.SmixIdeal.τ).loc Cert.SmixIdeal.main_arg6)
      ∧ m' ((c.tc : Thread Cert.SmixRefIdeal.nD Cert.SmixRefIdeal.τ).loc Cert.SmixRefIdeal.main_arg7) = m ((c.tc : Thread Cert.SmixIdeal.nD Cert.SmixIdeal.τ).loc Cert.SmixIdeal.main_arg7)
      ∧ m' ((c.tc : Thread Cert.SmixRefIdeal.nD Cert.SmixRefIdeal.τ).loc Cert.SmixRefIdeal.main_arg8) = m ((c.tc : Thread Cert.SmixIdeal.nD Cert.SmixIdeal.τ).loc Cert.SmixIdeal.main_arg8)
      ∧ m' ((c.tc : Thread Cert.SmixRefIdeal.nD Cert.SmixRefIdeal.τ).loc Cert.SmixRefIdeal.main_arg9) = m ((c.tc : Thread Cert.SmixIdeal.nD Cert.SmixIdeal.τ).loc Cert.SmixIdeal.main_arg9)
      ∧ m' ((c.tc : Thread Cert.SmixRefIdeal.nD Cert.SmixRefIdeal.τ).loc Cert.SmixRefIdeal.main_arg10) = m ((c.tc : Thread Cert.SmixIdeal.nD Cert.SmixIdeal.τ).loc Cert.SmixIdeal.main_arg10)
      ∧ m' ((c.tc : Thread Cert.SmixRefIdeal.nD Cert.SmixRefIdeal.τ).loc Cert.SmixRefIdeal.main_arg11) = m ((c.tc : Thread Cert.SmixIdeal.nD Cert.SmixIdeal.τ).loc Cert.SmixIdeal.main_arg11)
      ∧ m' ((c.tc : Thread Cert.SmixRefIdeal.nD Cert.SmixRefIdeal.τ).loc Cert.SmixRefIdeal.main_arg12) = m ((c.tc : Thread Cert.SmixIdeal.nD Cert.SmixIdeal.τ).loc Cert.SmixIdeal.main_arg12)
      ∧ m' ((c.tc : Thread Cert.SmixRefIdeal.nD Cert.SmixRefIdeal.τ).loc Cert.SmixRefIdeal.main_arg13) = m ((c.tc : Thread Cert.SmixIdeal.nD Cert.SmixIdeal.τ).loc Cert.SmixIdeal.main_arg13)
      ∧ m' ((c.tc : Thread Cert.SmixRefIdeal.nD Cert.SmixRefIdeal.τ).loc Cert.SmixRefIdeal.main_arg14) = m ((c.tc : Thread Cert.SmixIdeal.nD Cert.SmixIdeal.τ).loc Cert.SmixIdeal.main_arg14)
      ∧ m' ((c.tc : Thread Cert.SmixRefIdeal.nD Cert.SmixRefIdeal.τ).loc Cert.SmixRefIdeal.main_arg15) = m ((c.tc : Thread Cert.SmixIdeal.nD Cert.SmixIdeal.τ).loc Cert.SmixIdeal.main_arg15)
      ∧ m' ((c.tc : Thread Cert.SmixRefIdeal.nD Cert.SmixRefIdeal.τ).loc Cert.SmixRefIdeal.main_arg16) = m ((c.tc : Thread Cert.SmixIdeal.nD Cert.SmixIdeal.τ).loc Cert.SmixIdeal.main_arg16)) →
    ∃ (v0 : (c : Dev Cert.SmixIdeal.nD) → Buf (Elt Ideal) ((c.tc : Thread Cert.SmixIdeal.nD Cert.SmixIdeal.τ).loc Cert.SmixIdeal.main_v84_0)) (v1 : (c : Dev Cert.SmixIdeal.nD) → Buf (Elt Ideal) ((c.tc : Thread Cert.SmixIdeal.nD Cert.SmixIdeal.τ).loc Cert.SmixIdeal.main_v84_1)) (v2 : (c : Dev Cert.SmixIdeal.nD) → Buf (Elt Ideal) ((c.tc : Thread Cert.SmixIdeal.nD Cert.SmixIdeal.τ).loc Cert.SmixIdeal.main_v84_2)) (v3 : (c : Dev Cert.SmixIdeal.nD) → Buf (Elt Ideal) ((c.tc : Thread Cert.SmixIdeal.nD Cert.SmixIdeal.τ).loc Cert.SmixIdeal.main_v84_3)),
      θ_run (Cert.SmixIdeal.defs (F := Ideal)) (onTc (τ := Cert.SmixIdeal.τ) (Cert.SmixIdeal.main (F := Ideal))) ⟨m, fun _ => 0, g⟩ (fun r => ∀ c : Dev Cert.SmixIdeal.nD,
          r.2.mem ((c.tc : Thread Cert.SmixIdeal.nD Cert.SmixIdeal.τ).loc Cert.SmixIdeal.main_v84_0) = v0 c
          ∧ r.2.mem ((c.tc : Thread Cert.SmixIdeal.nD Cert.SmixIdeal.τ).loc Cert.SmixIdeal.main_v84_1) = v1 c
          ∧ r.2.mem ((c.tc : Thread Cert.SmixIdeal.nD Cert.SmixIdeal.τ).loc Cert.SmixIdeal.main_v84_2) = v2 c
          ∧ r.2.mem ((c.tc : Thread Cert.SmixIdeal.nD Cert.SmixIdeal.τ).loc Cert.SmixIdeal.main_v84_3) = v3 c
          ∧ r.2.mem ((c.tc : Thread Cert.SmixIdeal.nD Cert.SmixIdeal.τ).loc Cert.SmixIdeal.main_arg0) = m ((c.tc : Thread Cert.SmixIdeal.nD Cert.SmixIdeal.τ).loc Cert.SmixIdeal.main_arg0)
          ∧ r.2.mem ((c.tc : Thread Cert.SmixIdeal.nD Cert.SmixIdeal.τ).loc Cert.SmixIdeal.main_arg1) = m ((c.tc : Thread Cert.SmixIdeal.nD Cert.SmixIdeal.τ).loc Cert.SmixIdeal.main_arg1)
          ∧ r.2.mem ((c.tc : Thread Cert.SmixIdeal.nD Cert.SmixIdeal.τ).loc Cert.SmixIdeal.main_arg2) = m ((c.tc : Thread Cert.SmixIdeal.nD Cert.SmixIdeal.τ).loc Cert.SmixIdeal.main_arg2)
          ∧ r.2.mem ((c.tc : Thread Cert.SmixIdeal.nD Cert.SmixIdeal.τ).loc Cert.SmixIdeal.main_arg3) = m ((c.tc : Thread Cert.SmixIdeal.nD Cert.SmixIdeal.τ).loc Cert.SmixIdeal.main_arg3)
          ∧ r.2.mem ((c.tc : Thread Cert.SmixIdeal.nD Cert.SmixIdeal.τ).loc Cert.SmixIdeal.main_arg4) = m ((c.tc : Thread Cert.SmixIdeal.nD Cert.SmixIdeal.τ).loc Cert.SmixIdeal.main_arg4)
          ∧ r.2.mem ((c.tc : Thread Cert.SmixIdeal.nD Cert.SmixIdeal.τ).loc Cert.SmixIdeal.main_arg5) = m ((c.tc : Thread Cert.SmixIdeal.nD Cert.SmixIdeal.τ).loc Cert.SmixIdeal.main_arg5)
          ∧ r.2.mem ((c.tc : Thread Cert.SmixIdeal.nD Cert.SmixIdeal.τ).loc Cert.SmixIdeal.main_arg6) = m ((c.tc : Thread Cert.SmixIdeal.nD Cert.SmixIdeal.τ).loc Cert.SmixIdeal.main_arg6)
          ∧ r.2.mem ((c.tc : Thread Cert.SmixIdeal.nD Cert.SmixIdeal.τ).loc Cert.SmixIdeal.main_arg7) = m ((c.tc : Thread Cert.SmixIdeal.nD Cert.SmixIdeal.τ).loc Cert.SmixIdeal.main_arg7)
          ∧ r.2.mem ((c.tc : Thread Cert.SmixIdeal.nD Cert.SmixIdeal.τ).loc Cert.SmixIdeal.main_arg8) = m ((c.tc : Thread Cert.SmixIdeal.nD Cert.SmixIdeal.τ).loc Cert.SmixIdeal.main_arg8)
          ∧ r.2.mem ((c.tc : Thread Cert.SmixIdeal.nD Cert.SmixIdeal.τ).loc Cert.SmixIdeal.main_arg9) = m ((c.tc : Thread Cert.SmixIdeal.nD Cert.SmixIdeal.τ).loc Cert.SmixIdeal.main_arg9)
          ∧ r.2.mem ((c.tc : Thread Cert.SmixIdeal.nD Cert.SmixIdeal.τ).loc Cert.SmixIdeal.main_arg10) = m ((c.tc : Thread Cert.SmixIdeal.nD Cert.SmixIdeal.τ).loc Cert.SmixIdeal.main_arg10)
          ∧ r.2.mem ((c.tc : Thread Cert.SmixIdeal.nD Cert.SmixIdeal.τ).loc Cert.SmixIdeal.main_arg11) = m ((c.tc : Thread Cert.SmixIdeal.nD Cert.SmixIdeal.τ).loc Cert.SmixIdeal.main_arg11)
          ∧ r.2.mem ((c.tc : Thread Cert.SmixIdeal.nD Cert.SmixIdeal.τ).loc Cert.SmixIdeal.main_arg12) = m ((c.tc : Thread Cert.SmixIdeal.nD Cert.SmixIdeal.τ).loc Cert.SmixIdeal.main_arg12)
          ∧ r.2.mem ((c.tc : Thread Cert.SmixIdeal.nD Cert.SmixIdeal.τ).loc Cert.SmixIdeal.main_arg13) = m ((c.tc : Thread Cert.SmixIdeal.nD Cert.SmixIdeal.τ).loc Cert.SmixIdeal.main_arg13)
          ∧ r.2.mem ((c.tc : Thread Cert.SmixIdeal.nD Cert.SmixIdeal.τ).loc Cert.SmixIdeal.main_arg14) = m ((c.tc : Thread Cert.SmixIdeal.nD Cert.SmixIdeal.τ).loc Cert.SmixIdeal.main_arg14)
          ∧ r.2.mem ((c.tc : Thread Cert.SmixIdeal.nD Cert.SmixIdeal.τ).loc Cert.SmixIdeal.main_arg15) = m ((c.tc : Thread Cert.SmixIdeal.nD Cert.SmixIdeal.τ).loc Cert.SmixIdeal.main_arg15)
          ∧ r.2.mem ((c.tc : Thread Cert.SmixIdeal.nD Cert.SmixIdeal.τ).loc Cert.SmixIdeal.main_arg16) = m ((c.tc : Thread Cert.SmixIdeal.nD Cert.SmixIdeal.τ).loc Cert.SmixIdeal.main_arg16))
      ∧ θ_run (Cert.SmixRefIdeal.defs (F := Ideal)) (onTc (τ := Cert.SmixRefIdeal.τ) (Cert.SmixRefIdeal.main (F := Ideal))) ⟨m', fun _ => 0, g'⟩ (fun r => ∀ c : Dev Cert.SmixRefIdeal.nD,
          r.2.mem ((c.tc : Thread Cert.SmixRefIdeal.nD Cert.SmixRefIdeal.τ).loc Cert.SmixRefIdeal.main_v124) = v0 c
          ∧ r.2.mem ((c.tc : Thread Cert.SmixRefIdeal.nD Cert.SmixRefIdeal.τ).loc Cert.SmixRefIdeal.main_v125) = v1 c
          ∧ r.2.mem ((c.tc : Thread Cert.SmixRefIdeal.nD Cert.SmixRefIdeal.τ).loc Cert.SmixRefIdeal.main_v126) = v2 c
          ∧ r.2.mem ((c.tc : Thread Cert.SmixRefIdeal.nD Cert.SmixRefIdeal.τ).loc Cert.SmixRefIdeal.main_v122) = v3 c
          ∧ r.2.mem ((c.tc : Thread Cert.SmixRefIdeal.nD Cert.SmixRefIdeal.τ).loc Cert.SmixRefIdeal.main_arg0) = m' ((c.tc : Thread Cert.SmixRefIdeal.nD Cert.SmixRefIdeal.τ).loc Cert.SmixRefIdeal.main_arg0)
          ∧ r.2.mem ((c.tc : Thread Cert.SmixRefIdeal.nD Cert.SmixRefIdeal.τ).loc Cert.SmixRefIdeal.main_arg1) = m' ((c.tc : Thread Cert.SmixRefIdeal.nD Cert.SmixRefIdeal.τ).loc Cert.SmixRefIdeal.main_arg1)
          ∧ r.2.mem ((c.tc : Thread Cert.SmixRefIdeal.nD Cert.SmixRefIdeal.τ).loc Cert.SmixRefIdeal.main_arg2) = m' ((c.tc : Thread Cert.SmixRefIdeal.nD Cert.SmixRefIdeal.τ).loc Cert.SmixRefIdeal.main_arg2)
          ∧ r.2.mem ((c.tc : Thread Cert.SmixRefIdeal.nD Cert.SmixRefIdeal.τ).loc Cert.SmixRefIdeal.main_arg3) = m' ((c.tc : Thread Cert.SmixRefIdeal.nD Cert.SmixRefIdeal.τ).loc Cert.SmixRefIdeal.main_arg3)
          ∧ r.2.mem ((c.tc : Thread Cert.SmixRefIdeal.nD Cert.SmixRefIdeal.τ).loc Cert.SmixRefIdeal.main_arg4) = m' ((c.tc : Thread Cert.SmixRefIdeal.nD Cert.SmixRefIdeal.τ).loc Cert.SmixRefIdeal.main_arg4)
          ∧ r.2.mem ((c.tc : Thread Cert.SmixRefIdeal.nD Cert.SmixRefIdeal.τ).loc Cert.SmixRefIdeal.main_arg5) = m' ((c.tc : Thread Cert.SmixRefIdeal.nD Cert.SmixRefIdeal.τ).loc Cert.SmixRefIdeal.main_arg5)
          ∧ r.2.mem ((c.tc : Thread Cert.SmixRefIdeal.nD Cert.SmixRefIdeal.τ).loc Cert.SmixRefIdeal.main_arg6) = m' ((c.tc : Thread Cert.SmixRefIdeal.nD Cert.SmixRefIdeal.τ).loc Cert.SmixRefIdeal.main_arg6)
          ∧ r.2.mem ((c.tc : Thread Cert.SmixRefIdeal.nD Cert.SmixRefIdeal.τ).loc Cert.SmixRefIdeal.main_arg7) = m' ((c.tc : Thread Cert.SmixRefIdeal.nD Cert.SmixRefIdeal.τ).loc Cert.SmixRefIdeal.main_arg7)
          ∧ r.2.mem ((c.tc : Thread Cert.SmixRefIdeal.nD Cert.SmixRefIdeal.τ).loc Cert.SmixRefIdeal.main_arg8) = m' ((c.tc : Thread Cert.SmixRefIdeal.nD Cert.SmixRefIdeal.τ).loc Cert.SmixRefIdeal.main_arg8)
          ∧ r.2.mem ((c.tc : Thread Cert.SmixRefIdeal.nD Cert.SmixRefIdeal.τ).loc Cert.SmixRefIdeal.main_arg9) = m' ((c.tc : Thread Cert.SmixRefIdeal.nD Cert.SmixRefIdeal.τ).loc Cert.SmixRefIdeal.main_arg9)
          ∧ r.2.mem ((c.tc : Thread Cert.SmixRefIdeal.nD Cert.SmixRefIdeal.τ).loc Cert.SmixRefIdeal.main_arg10) = m' ((c.tc : Thread Cert.SmixRefIdeal.nD Cert.SmixRefIdeal.τ).loc Cert.SmixRefIdeal.main_arg10)
          ∧ r.2.mem ((c.tc : Thread Cert.SmixRefIdeal.nD Cert.SmixRefIdeal.τ).loc Cert.SmixRefIdeal.main_arg11) = m' ((c.tc : Thread Cert.SmixRefIdeal.nD Cert.SmixRefIdeal.τ).loc Cert.SmixRefIdeal.main_arg11)
          ∧ r.2.mem ((c.tc : Thread Cert.SmixRefIdeal.nD Cert.SmixRefIdeal.τ).loc Cert.SmixRefIdeal.main_arg12) = m' ((c.tc : Thread Cert.SmixRefIdeal.nD Cert.SmixRefIdeal.τ).loc Cert.SmixRefIdeal.main_arg12)
          ∧ r.2.mem ((c.tc : Thread Cert.SmixRefIdeal.nD Cert.SmixRefIdeal.τ).loc Cert.SmixRefIdeal.main_arg13) = m' ((c.tc : Thread Cert.SmixRefIdeal.nD Cert.SmixRefIdeal.τ).loc Cert.SmixRefIdeal.main_arg13)
          ∧ r.2.mem ((c.tc : Thread Cert.SmixRefIdeal.nD Cert.SmixRefIdeal.τ).loc Cert.SmixRefIdeal.main_arg14) = m' ((c.tc : Thread Cert.SmixRefIdeal.nD Cert.SmixRefIdeal.τ).loc Cert.SmixRefIdeal.main_arg14)
          ∧ r.2.mem ((c.tc : Thread Cert.SmixRefIdeal.nD Cert.SmixRefIdeal.τ).loc Cert.SmixRefIdeal.main_arg15) = m' ((c.tc : Thread Cert.SmixRefIdeal.nD Cert.SmixRefIdeal.τ).loc Cert.SmixRefIdeal.main_arg15)
          ∧ r.2.mem ((c.tc : Thread Cert.SmixRefIdeal.nD Cert.SmixRefIdeal.τ).loc Cert.SmixRefIdeal.main_arg16) = m' ((c.tc : Thread Cert.SmixRefIdeal.nD Cert.SmixRefIdeal.τ).loc Cert.SmixRefIdeal.main_arg16))

def Claim : Prop :=
  ∃ (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hProjS : Cert.ProjS.Facts) (hProjSIdeal : Cert.ProjSIdeal.Facts) (hProjSRefIdeal : Cert.ProjSRefIdeal.Facts) (hNormS : Cert.NormS.Facts) (hNormSIdeal : Cert.NormSIdeal.Facts) (hNormSRefIdeal : Cert.NormSRefIdeal.Facts) (hSmix : Cert.Smix.Facts) (hSmixIdeal : Cert.SmixIdeal.Facts) (hSmixRefIdeal : Cert.SmixRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_NormS (hNormS := hNormS)
    ∧ quiescent_NormSIdeal (hNormSIdeal := hNormSIdeal)
    ∧ quiescent_NormSRefIdeal (hNormSRefIdeal := hNormSRefIdeal)
    ∧ quiescent_Smix (hSmix := hSmix)
    ∧ quiescent_SmixIdeal (hSmixIdeal := hSmixIdeal)
    ∧ quiescent_SmixRefIdeal (hSmixRefIdeal := hSmixRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_ProjS_ProjSIdeal
    ∧ algebraic_ProjSIdeal_ProjSRefIdeal (hProjSIdeal := hProjSIdeal) (hProjSRefIdeal := hProjSRefIdeal)
    ∧ preserves_NormS_NormSIdeal
    ∧ algebraic_NormSIdeal_NormSRefIdeal (hNormSIdeal := hNormSIdeal) (hNormSRefIdeal := hNormSRefIdeal)
    ∧ preserves_Smix_SmixIdeal
    ∧ algebraic_SmixIdeal_SmixRefIdeal (hSmixIdeal := hSmixIdeal) (hSmixRefIdeal := hSmixRefIdeal)
-- ==== Ffn.lean ====
abbrev S2x4096x2048 : Shape := ⟨3, ![2, 4096, 2048]⟩
abbrev S2048 : Shape := ⟨1, ![2048]⟩
abbrev S2048x5632 : Shape := ⟨2, ![2048, 5632]⟩
abbrev S5632x2048 : Shape := ⟨2, ![5632, 2048]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S2x4096x2048 : Shape := ⟨3, ![2, 4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5632 : Shape := ⟨3, ![2, 4096, 5632]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S_, .f32⟩
  | .hbm, ⟨25, _⟩ => ⟨S2x4096x5632, .f32⟩
  | .hbm, ⟨26, _⟩ => ⟨S2x4096x5632, .f32⟩
  | .hbm, ⟨27, _⟩ => ⟨S_, .f32⟩
  | .hbm, ⟨28, _⟩ => ⟨S2x4096x5632, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x4096x2048, .f32⟩
  | .hbm, ⟨34, _⟩ => ⟨S2x4096x2048, .f32⟩
  | .hbm, ⟨35, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proj.lean ====
abbrev S2x4096x2048 : Shape := ⟨3, ![2, 4096, 2048]⟩
abbrev S2048 : Shape := ⟨1, ![2048]⟩
abbrev S2048x4608 : Shape := ⟨2, ![2048, 4608]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S32 : Shape := ⟨1, ![32]⟩
abbrev S1x32 : Shape := ⟨2, ![1, 32]⟩
abbrev S4096x32 : Shape := ⟨2, ![4096, 32]⟩
abbrev S1x4096x1x64 : Shape := ⟨4, ![1, 4096, 1, 64]⟩
abbrev S1x4096x2x64 : Shape := ⟨4, ![1, 4096, 2, 64]⟩
abbrev S8192x2048 : Shape := ⟨2, ![8192, 2048]⟩
abbrev S1x2048 : Shape := ⟨2, ![1, 2048]⟩
abbrev S8192x512 : Shape := ⟨2, ![8192, 512]⟩
abbrev S512x2048 : Shape := ⟨2, ![512, 2048]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 72
  | .vmem => 30
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x4608, .f32⟩
  | .hbm, ⟨3, _⟩ => ⟨S4096, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x64, .f32⟩
  | .hbm, ⟨52, _⟩ => ⟨S1x4096x1x64, .f32⟩
  | .hbm, ⟨53, _⟩ => ⟨S1x4096x2x64, .f32⟩
  | .hbm, ⟨54, _⟩ => ⟨S4096x128, .f32⟩
  | .hbm, ⟨55, _⟩ => ⟨S4096x32, .f32⟩
  | .hbm, ⟨56, _⟩ => ⟨S4096x64, .f32⟩
  | .hbm, ⟨57, _⟩ => ⟨S1x4096x1x64, .f32⟩
  | .hbm, ⟨58, _⟩ => ⟨S1x4096x2x64, .f32⟩
  | .hbm, ⟨59, _⟩ => ⟨S4096x128, .f32⟩
  | .hbm, ⟨60, _⟩ => ⟨S8192x2048, .f32⟩
  | .hbm, ⟨61, _⟩ => ⟨S1x2048, .f32⟩
  | .hbm, ⟨62, _⟩ => ⟨S2048x4608, .bf16⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54_0 : Ref sig .tc := ⟨.hbm, 63, rfl⟩
abbrev main_v54_1 : Ref sig .tc := ⟨.hbm, 64, rfl⟩
abbrev main_v54_2 : Ref sig .tc := ⟨.hbm, 65, rfl⟩
abbrev main_v54_3 : Ref sig .tc := ⟨.hbm, 66, rfl⟩
abbrev main_v54_4 : Ref sig .tc := ⟨.hbm, 67, rfl⟩
abbrev main_v54_5 : Ref sig .tc := ⟨.hbm, 68, rfl⟩
abbrev main_v54_6 : Ref sig .tc := ⟨.hbm, 69, rfl⟩
abbrev main_v54_7 : Ref sig .tc := ⟨.hbm, 70, rfl⟩
abbrev main_v54_8 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S2x4096x2048 : Shape := ⟨3, ![2, 4096, 2048]⟩
abbrev S2048 : Shape := ⟨1, ![2048]⟩
abbrev S2048x4608 : Shape := ⟨2, ![2048, 4608]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x4608 : Shape := ⟨3, ![2, 4096, 4608]⟩
abbrev S2x4096x512 : Shape := ⟨3, ![2, 4096, 512]⟩
abbrev S2x4096x1024 : Shape := ⟨3, ![2, 4096, 1024]⟩
abbrev S2x4096x4x128 : Shape := ⟨4, ![2, 4096, 4, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x4x64 : Shape := ⟨4, ![2, 4096, 4, 64]⟩
abbrev S1x4096x1x64 : Shape := ⟨4, ![1, 4096, 1, 64]⟩
abbrev S2x4096x8x64 : Shape := ⟨4, ![2, 4096, 8, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S8192x512 : Shape := ⟨2, ![8192, 512]⟩

abbrev nBuf : Space → Nat
  | .hbm => 196
  | .vmem => 0
  | .smem => 0
  | _ => 0

abbrev hbmTy0_0 (i : Nat) : BufTy := match i % 128 with
  | 0 => ⟨S2x4096x2048, .f32⟩
  | 1 => ⟨S2048, .f32⟩
  | 2 => ⟨S2048x4608, .f32⟩
  | 3 => ⟨S4096, .i32⟩
  | 4 => ⟨S2x4096x2048, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S_, .f32⟩
  | 12 => ⟨S2x4096x1, .f32⟩
  | 13 => ⟨S2x4096x1, .f32⟩
  | 14 => ⟨S2x4096x1, .f32⟩
  | 15 => ⟨S2x4096x2048, .f32⟩
  | 16 => ⟨S2x4096x2048, .f32⟩
  | 17 => ⟨S1x1x2048, .f32⟩
  | 18 => ⟨S2x4096x2048, .f32⟩
  | 19 => ⟨S2x4096x2048, .f32⟩
  | 20 => ⟨S2x4096x4608, .f32⟩
  | 21 => ⟨S2x4096x512, .f32⟩
  | 22 => ⟨S2x4096x512, .f32⟩
  | 23 => ⟨S2x4096x512, .f32⟩
  | 24 => ⟨S2x4096x512, .f32⟩
  | 25 => ⟨S2x4096x512, .f32⟩
  | 26 => ⟨S2x4096x512, .f32⟩
  | 27 => ⟨S2x4096x1024, .f32⟩
  | 28 => ⟨S2x4096x512, .f32⟩
  | 29 => ⟨S2x4096x4x128, .f32⟩
  | 30 => ⟨S64, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S4096, .f32⟩
  | 42 => ⟨S4096x1, .f32⟩
  | 43 => ⟨S1x64, .f32⟩
  | 44 => ⟨S4096x64, .f32⟩
  | 45 => ⟨S4096x64, .f32⟩
  | 46 => ⟨S4096x64, .f32⟩
  | 47 => ⟨S4096x64, .f32⟩
  | 48 => ⟨S4096x1x64, .f32⟩
  | 49 => ⟨S4096x64, .f32⟩
  | 50 => ⟨S4096x1x64, .f32⟩
  | 51 => ⟨S2x4096x4x64, .f32⟩
  | 52 => ⟨S2x4096x4x64, .f32⟩
  | 53 => ⟨S1x4096x1x64, .f32⟩
  | 54 => ⟨S2x4096x4x64, .f32⟩
  | 55 => ⟨S2x4096x4x64, .f32⟩
  | 56 => ⟨S1x4096x1x64, .f32⟩
  | 57 => ⟨S2x4096x4x64, .f32⟩
  | 58 => ⟨S2x4096x4x64, .f32⟩
  | 59 => ⟨S2x4096x4x64, .f32⟩
  | 60 => ⟨S1x4096x1x64, .f32⟩
  | 61 => ⟨S2x4096x4x64, .f32⟩
  | 62 => ⟨S2x4096x4x64, .f32⟩
  | 63 => ⟨S1x4096x1x64, .f32⟩
  | 64 => ⟨S2x4096x4x64, .f32⟩
  | 65 => ⟨S2x4096x4x64, .f32⟩
  | 66 => ⟨S2x4096x4x64, .f32⟩
  | 67 => ⟨S2x4096x4x128, .f32⟩
  | 68 => ⟨S2x4096x4x128, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S4096, .f32⟩
  | 81 => ⟨S4096x1, .f32⟩
  | 82 => ⟨S1x64, .f32⟩
  | 83 => ⟨S4096x64, .f32⟩
  | 84 => ⟨S4096x64, .f32⟩
  | 85 => ⟨S4096x64, .f32⟩
  | 86 => ⟨S4096x64, .f32⟩
  | 87 => ⟨S4096x1x64, .f32⟩
  | 88 => ⟨S4096x64, .f32⟩
  | 89 => ⟨S4096x1x64, .f32⟩
  | 90 => ⟨S2x4096x4x64, .f32⟩
  | 91 => ⟨S2x4096x4x64, .f32⟩
  | 92 => ⟨S1x4096x1x64, .f32⟩
  | 93 => ⟨S2x4096x4x64, .f32⟩
  | 94 => ⟨S2x4096x4x64, .f32⟩
  | 95 => ⟨S1x4096x1x64, .f32⟩
  | 96 => ⟨S2x4096x4x64, .f32⟩
  | 97 => ⟨S2x4096x4x64, .f32⟩
  | 98 => ⟨S2x4096x4x64, .f32⟩
  | 99 => ⟨S1x4096x1x64, .f32⟩
  | 100 => ⟨S2x4096x4x64, .f32⟩
  | 101 => ⟨S2x4096x4x64, .f32⟩
  | 102 => ⟨S1x4096x1x64, .f32⟩
  | 103 => ⟨S2x4096x4x64, .f32⟩
  | 104 => ⟨S2x4096x4x64, .f32⟩
  | 105 => ⟨S2x4096x4x64, .f32⟩
  | 106 => ⟨S2x4096x4x128, .f32⟩
  | 107 => ⟨S2x4096x8x64, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S4096, .f32⟩
  | 120 => ⟨S4096x1, .f32⟩
  | 121 => ⟨S1x32, .f32⟩
  | 122 => ⟨S4096x32, .f32⟩
  | 123 => ⟨S4096x32, .f32⟩
  | 124 => ⟨S4096x32, .f32⟩
  | 125 => ⟨S4096x32, .f32⟩
  | 126 => ⟨S4096x1x32, .f32⟩
  | 127 => ⟨S4096x32, .f32⟩
  | _ => ⟨S2x4096x2048, .f32⟩

abbrev hbmTy0_1 (i : Nat) : BufTy := match i % 128 with
  | 0 => ⟨S4096x1x32, .f32⟩
  | 1 => ⟨S2x4096x8x32, .f32⟩
  | 2 => ⟨S2x4096x8x32, .f32⟩
  | 3 => ⟨S1x4096x1x32, .f32⟩
  | 4 => ⟨S2x4096x8x32, .f32⟩
  | 5 => ⟨S2x4096x8x32, .f32⟩
  | 6 => ⟨S1x4096x1x32, .f32⟩
  | 7 => ⟨S2x4096x8x32, .f32⟩
  | 8 => ⟨S2x4096x8x32, .f32⟩
  | 9 => ⟨S2x4096x8x32, .f32⟩
  | 10 => ⟨S1x4096x1x32, .f32⟩
  | 11 => ⟨S2x4096x8x32, .f32⟩
  | 12 => ⟨S2x4096x8x32, .f32⟩
  | 13 => ⟨S1x4096x1x32, .f32⟩
  | 14 => ⟨S2x4096x8x32, .f32⟩
  | 15 => ⟨S2x4096x8x32, .f32⟩
  | 16 => ⟨S2x4096x8x32, .f32⟩
  | 17 => ⟨S2x4096x8x64, .f32⟩
  | 18 => ⟨S2x4096x8x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4096, .f32⟩
  | 31 => ⟨S4096x1, .f32⟩
  | 32 => ⟨S1x32, .f32⟩
  | 33 => ⟨S4096x32, .f32⟩
  | 34 => ⟨S4096x32, .f32⟩
  | 35 => ⟨S4096x32, .f32⟩
  | 36 => ⟨S4096x32, .f32⟩
  | 37 => ⟨S4096x1x32, .f32⟩
  | 38 => ⟨S4096x32, .f32⟩
  | 39 => ⟨S4096x1x32, .f32⟩
  | 40 => ⟨S2x4096x8x32, .f32⟩
  | 41 => ⟨S2x4096x8x32, .f32⟩
  | 42 => ⟨S1x4096x1x32, .f32⟩
  | 43 => ⟨S2x4096x8x32, .f32⟩
  | 44 => ⟨S2x4096x8x32, .f32⟩
  | 45 => ⟨S1x4096x1x32, .f32⟩
  | 46 => ⟨S2x4096x8x32, .f32⟩
  | 47 => ⟨S2x4096x8x32, .f32⟩
  | 48 => ⟨S2x4096x8x32, .f32⟩
  | 49 => ⟨S1x4096x1x32, .f32⟩
  | 50 => ⟨S2x4096x8x32, .f32⟩
  | 51 => ⟨S2x4096x8x32, .f32⟩
  | 52 => ⟨S1x4096x1x32, .f32⟩
  | 53 => ⟨S2x4096x8x32, .f32⟩
  | 54 => ⟨S2x4096x8x32, .f32⟩
  | 55 => ⟨S2x4096x8x32, .f32⟩
  | 56 => ⟨S2x4096x8x64, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S2x4096x512, .f32⟩
  | 64 => ⟨S8192x512, .f32⟩
  | 65 => ⟨S2x4096x512, .f32⟩
  | 66 => ⟨S8192x512, .f32⟩
  | 67 => ⟨S8192x512, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_cst_7 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_cst_8 : Ref sig .tc := ⟨.hbm, 110, rfl⟩
abbrev main_v98 : Ref sig .tc := ⟨.hbm, 111, rfl⟩
abbrev main_v99 : Ref sig .tc := ⟨.hbm, 112, rfl⟩
abbrev main_cst_9 : Ref sig .tc := ⟨.hbm, 113, rfl⟩
abbrev main_v100 : Ref sig .tc := ⟨.hbm, 114, rfl⟩
abbrev main_v101 : Ref sig .tc := ⟨.hbm, 115, rfl⟩
abbrev main_cst_10 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_cst_11 : Ref sig .tc := ⟨.hbm, 149, rfl⟩
abbrev main_v134 : Ref sig .tc := ⟨.hbm, 150, rfl⟩
abbrev main_v135 : Ref sig .tc := ⟨.hbm, 151, rfl⟩
abbrev main_cst_12 : Ref sig .tc := ⟨.hbm, 152, rfl⟩
abbrev main_v136 : Ref sig .tc := ⟨.hbm, 153, rfl⟩
abbrev main_v137 : Ref sig .tc := ⟨.hbm, 154, rfl⟩
abbrev main_cst_13 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩

abbrev nD : Nat := 1
abbrev τ : Topo := Topo.v7x

variable {F : FTy → Type} [FloatOps F]
-- ==== Out.lean ====
abbrev S2x4096x2048 : Shape := ⟨3, ![2, 4096, 2048]⟩
abbrev S2x4096x512 : Shape := ⟨3, ![2, 4096, 512]⟩
abbrev S2048x2048 : Shape := ⟨2, ![2048, 2048]⟩
abbrev S8192x2048 : Shape := ⟨2, ![8192, 2048]⟩
abbrev S8192x512 : Shape := ⟨2, ![8192, 512]⟩
abbrev S512x2048 : Shape := ⟨2, ![512, 2048]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x512, .f32⟩
  | .hbm, ⟨5, _⟩ => ⟨S2048x2048, .f32⟩
  | .hbm, ⟨6, _⟩ => ⟨S8192x2048, .f32⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S8192x512, .bf16⟩
  | .hbm, ⟨13, _⟩ => ⟨S8192x512, .f32⟩
  | .hbm, ⟨14, _⟩ => ⟨S8192x512, .bf16⟩
  | .hbm, ⟨15, _⟩ => ⟨S2048x2048, .bf16⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S2x4096x2048 : Shape := ⟨3, ![2, 4096, 2048]⟩
abbrev S2x4096x512 : Shape := ⟨3, ![2, 4096, 512]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x512, .f32⟩
  | .hbm, ⟨2, _⟩ => ⟨S2x4096x512, .f32⟩
  | .hbm, ⟨3, _⟩ => ⟨S2x4096x512, .f32⟩
  | .hbm, ⟨4, _⟩ => ⟨S2x4096x512, .f32⟩
  | .hbm, ⟨5, _⟩ => ⟨S2048x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩

abbrev nD : Nat := 1
abbrev τ : Topo := Topo.v7x

variable {F : FTy → Type} [FloatOps F]
-- ==== Norm.lean ====
abbrev S2x4096x2048 : Shape := ⟨3, ![2, 4096, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2x4096x2048, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x2048, .f32⟩
  | .hbm, ⟨14, _⟩ => ⟨S2x4096x2048, .f32⟩
  | .hbm, ⟨15, _⟩ => ⟨S1x1x2048, .f32⟩
  | .hbm, ⟨16, _⟩ => ⟨S2x4096x2048, .f32⟩
  | .hbm, ⟨17, _⟩ => ⟨S2x4096x2048, .f32⟩
  | .hbm, ⟨18, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjS.lean ====
abbrev S8x1x2048 : Shape := ⟨3, ![8, 1, 2048]⟩
abbrev S2048 : Shape := ⟨1, ![2048]⟩
abbrev S2048x4608 : Shape := ⟨2, ![2048, 4608]⟩
abbrev S_ : Shape := ⟨0, ![]⟩
abbrev S8 : Shape := ⟨1, ![8]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S1x8x1x128 : Shape := ⟨4, ![1, 8, 1, 128]⟩
abbrev S32 : Shape := ⟨1, ![32]⟩
abbrev S1x32 : Shape := ⟨2, ![1, 32]⟩
abbrev S8x32 : Shape := ⟨2, ![8, 32]⟩
abbrev S1x8x1x64 : Shape := ⟨4, ![1, 8, 1, 64]⟩
abbrev S1x8x2x64 : Shape := ⟨4, ![1, 8, 2, 64]⟩
abbrev S8x2048 : Shape := ⟨2, ![8, 2048]⟩
abbrev S1x2048 : Shape := ⟨2, ![1, 2048]⟩
abbrev S8x512 : Shape := ⟨2, ![8, 512]⟩
abbrev S2048x512 : Shape := ⟨2, ![2048, 512]⟩

abbrev nBuf : Space → Nat
  | .hbm => 73
  | .vmem => 16
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S2048x4608, .f32⟩
  | .hbm, ⟨3, _⟩ => ⟨S_, .i32⟩
  | .hbm, ⟨4, _⟩ => ⟨S8, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8, .f32⟩
  | .hbm, ⟨17, _⟩ => ⟨S8x1, .f32⟩
  | .hbm, ⟨18, _⟩ => ⟨S1x64, .f32⟩
  | .hbm, ⟨19, _⟩ => ⟨S8x64, .f32⟩
  | .hbm, ⟨20, _⟩ => ⟨S8x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S8x128, .f32⟩
  | .hbm, ⟨25, _⟩ => ⟨S1x8x1x128, .f32⟩
  | .hbm, ⟨26, _⟩ => ⟨S1x8x1x128, .f32⟩
  | .hbm, ⟨27, _⟩ => ⟨S8x128, .f32⟩
  | .hbm, ⟨28, _⟩ => ⟨S8x64, .f32⟩
  | .hbm, ⟨29, _⟩ => ⟨S8x128, .f32⟩
  | .hbm, ⟨30, _⟩ => ⟨S1x8x1x128, .f32⟩
  | .hbm, ⟨31, _⟩ => ⟨S1x8x1x128, .f32⟩
  | .hbm, ⟨32, _⟩ => ⟨S8x128, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S8, .f32⟩
  | .hbm, ⟨45, _⟩ => ⟨S8x1, .f32⟩
  | .hbm, ⟨46, _⟩ => ⟨S1x32, .f32⟩
  | .hbm, ⟨47, _⟩ => ⟨S8x32, .f32⟩
  | .hbm, ⟨48, _⟩ => ⟨S8x32, .f32⟩
  | .hbm, ⟨49, _⟩ => ⟨S8x32, .f32⟩
  | .hbm, ⟨50, _⟩ => ⟨S8x32, .f32⟩
  | .hbm, ⟨51, _⟩ => ⟨S8x32, .f32⟩
  | .hbm, ⟨52, _⟩ => ⟨S8x64, .f32⟩
  | .hbm, ⟨53, _⟩ => ⟨S1x8x1x64, .f32⟩
  | .hbm, ⟨54, _⟩ => ⟨S1x8x2x64, .f32⟩
  | .hbm, ⟨55, _⟩ => ⟨S8x128, .f32⟩
  | .hbm, ⟨56, _⟩ => ⟨S8x32, .f32⟩
  | .hbm, ⟨57, _⟩ => ⟨S8x64, .f32⟩
  | .hbm, ⟨58, _⟩ => ⟨S1x8x1x64, .f32⟩
  | .hbm, ⟨59, _⟩ => ⟨S1x8x2x64, .f32⟩
  | .hbm, ⟨60, _⟩ => ⟨S8x128, .f32⟩
  | .hbm, ⟨61, _⟩ => ⟨S8x2048, .f32⟩
  | .hbm, ⟨62, _⟩ => ⟨S1x2048, .f32⟩
  | .hbm, ⟨63, _⟩ => ⟨S2048x4608, .bf16⟩
  | .hbm, ⟨64, _⟩ => ⟨S8x512, .f32⟩
  | .hbm, ⟨65, _⟩ => ⟨S8x512, .f32⟩
  | .hbm, ⟨66, _⟩ => ⟨S8x512, .f32⟩
  | .hbm, ⟨67, _⟩ => ⟨S8x512, .f32⟩
  | .hbm, ⟨68, _⟩ => ⟨S8x512, .f32⟩
  | .hbm, ⟨69, _⟩ => ⟨S8x512, .f32⟩
  | .hbm, ⟨70, _⟩ => ⟨S8x512, .f32⟩
  | .hbm, ⟨71, _⟩ => ⟨S8x512, .f32⟩
  | .hbm, ⟨72, _⟩ => ⟨S8x512, .f32⟩
  | .local _ .vmem, ⟨0, _⟩ => ⟨S8x2048, .f32⟩
  | .local _ .vmem, ⟨1, _⟩ => ⟨S1x2048, .f32⟩
  | .local _ .vmem, ⟨2, _⟩ => ⟨S2048x4608, .bf16⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54_0 : Ref sig .tc := ⟨.hbm, 64, rfl⟩
abbrev main_v54_1 : Ref sig .tc := ⟨.hbm, 65, rfl⟩
abbrev main_v54_2 : Ref sig .tc := ⟨.hbm, 66, rfl⟩
abbrev main_v54_3 : Ref sig .tc := ⟨.hbm, 67, rfl⟩
abbrev main_v54_4 : Ref sig .tc := ⟨.hbm, 68, rfl⟩
abbrev main_v54_5 : Ref sig .tc := ⟨.hbm, 69, rfl⟩
abbrev main_v54_6 : Ref sig .tc := ⟨.hbm, 70, rfl⟩
abbrev main_v54_7 : Ref sig .tc := ⟨.hbm, 71, rfl⟩
abbrev main_v54_8 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== ProjSRefIdeal.lean ====
abbrev S8x1x2048 : Shape := ⟨3, ![8, 1, 2048]⟩
abbrev S2048 : Shape := ⟨1, ![2048]⟩
abbrev S2048x4608 : Shape := ⟨2, ![2048, 4608]⟩
abbrev S1 : Shape := ⟨1, ![1]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x4608 : Shape := ⟨3, ![8, 1, 4608]⟩
abbrev S8x1x512 : Shape := ⟨3, ![8, 1, 512]⟩
abbrev S8x1x1024 : Shape := ⟨3, ![8, 1, 1024]⟩
abbrev S8x1x4x128 : Shape := ⟨4, ![8, 1, 4, 128]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S8x1x4x64 : Shape := ⟨4, ![8, 1, 4, 64]⟩
abbrev S1x1x1x64 : Shape := ⟨4, ![1, 1, 1, 64]⟩
abbrev S8x1x8x64 : Shape := ⟨4, ![8, 1, 8, 64]⟩
abbrev S32 : Shape := ⟨1, ![32]⟩
abbrev S1x32 : Shape := ⟨2, ![1, 32]⟩
abbrev S1x1x32 : Shape := ⟨3, ![1, 1, 32]⟩
abbrev S8x1x8x32 : Shape := ⟨4, ![8, 1, 8, 32]⟩
abbrev S1x1x1x32 : Shape := ⟨4, ![1, 1, 1, 32]⟩
abbrev S8x512 : Shape := ⟨2, ![8, 512]⟩

abbrev nBuf : Space → Nat
  | .hbm => 195
  | .vmem => 0
  | .smem => 0
  | _ => 0

abbrev hbmTy0_0 (i : Nat) : BufTy := match i % 128 with
  | 0 => ⟨S8x1x2048, .f32⟩
  | 1 => ⟨S2048, .f32⟩
  | 2 => ⟨S2048x4608, .f32⟩
  | 3 => ⟨S1, .i32⟩
  | 4 => ⟨S_, .i32⟩
  | 5 => ⟨S1, .i32⟩
  | 6 => ⟨S1, .i32⟩
  | 7 => ⟨S8x1x2048, .f32⟩
  | 8 => ⟨S_, .f32⟩
  | 9 => ⟨S8x1, .f32⟩
  | 10 => ⟨S8x1x1, .f32⟩
  | 11 => ⟨S_, .f32⟩
  | 12 => ⟨S8x1x1, .f32⟩
  | 13 => ⟨S8x1x1, .f32⟩
  | 14 => ⟨S_, .f32⟩
  | 15 => ⟨S8x1x1, .f32⟩
  | 16 => ⟨S8x1x1, .f32⟩
  | 17 => ⟨S8x1x1, .f32⟩
  | 18 => ⟨S8x1x2048, .f32⟩
  | 19 => ⟨S8x1x2048, .f32⟩
  | 20 => ⟨S1x1x2048, .f32⟩
  | 21 => ⟨S8x1x2048, .f32⟩
  | 22 => ⟨S8x1x2048, .f32⟩
  | 23 => ⟨S8x1x4608, .f32⟩
  | 24 => ⟨S8x1x512, .f32⟩
  | 25 => ⟨S8x1x512, .f32⟩
  | 26 => ⟨S8x1x512, .f32⟩
  | 27 => ⟨S8x1x512, .f32⟩
  | 28 => ⟨S8x1x512, .f32⟩
  | 29 => ⟨S8x1x512, .f32⟩
  | 30 => ⟨S8x1x1024, .f32⟩
  | 31 => ⟨S8x1x512, .f32⟩
  | 32 => ⟨S8x1x4x128, .f32⟩
  | 33 => ⟨S64, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S_, .f32⟩
  | 42 => ⟨S64, .f32⟩
  | 43 => ⟨S64, .f32⟩
  | 44 => ⟨S1, .f32⟩
  | 45 => ⟨S1x1, .f32⟩
  | 46 => ⟨S1x64, .f32⟩
  | 47 => ⟨S1x64, .f32⟩
  | 48 => ⟨S1x64, .f32⟩
  | 49 => ⟨S1x64, .f32⟩
  | 50 => ⟨S1x1x64, .f32⟩
  | 51 => ⟨S1x64, .f32⟩
  | 52 => ⟨S1x1x64, .f32⟩
  | 53 => ⟨S8x1x4x64, .f32⟩
  | 54 => ⟨S8x1x4x64, .f32⟩
  | 55 => ⟨S1x1x1x64, .f32⟩
  | 56 => ⟨S8x1x4x64, .f32⟩
  | 57 => ⟨S8x1x4x64, .f32⟩
  | 58 => ⟨S1x1x1x64, .f32⟩
  | 59 => ⟨S8x1x4x64, .f32⟩
  | 60 => ⟨S8x1x4x64, .f32⟩
  | 61 => ⟨S8x1x4x64, .f32⟩
  | 62 => ⟨S1x1x1x64, .f32⟩
  | 63 => ⟨S8x1x4x64, .f32⟩
  | 64 => ⟨S8x1x4x64, .f32⟩
  | 65 => ⟨S1x1x1x64, .f32⟩
  | 66 => ⟨S8x1x4x64, .f32⟩
  | 67 => ⟨S8x1x4x64, .f32⟩
  | 68 => ⟨S8x1x4x64, .f32⟩
  | 69 => ⟨S8x1x4x128, .f32⟩
  | 70 => ⟨S8x1x4x128, .f32⟩
  | 71 => ⟨S64, .f32⟩
  | 72 => ⟨S64, .f32⟩
  | 73 => ⟨S_, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S1, .f32⟩
  | 83 => ⟨S1x1, .f32⟩
  | 84 => ⟨S1x64, .f32⟩
  | 85 => ⟨S1x64, .f32⟩
  | 86 => ⟨S1x64, .f32⟩
  | 87 => ⟨S1x64, .f32⟩
  | 88 => ⟨S1x1x64, .f32⟩
  | 89 => ⟨S1x64, .f32⟩
  | 90 => ⟨S1x1x64, .f32⟩
  | 91 => ⟨S8x1x4x64, .f32⟩
  | 92 => ⟨S8x1x4x64, .f32⟩
  | 93 => ⟨S1x1x1x64, .f32⟩
  | 94 => ⟨S8x1x4x64, .f32⟩
  | 95 => ⟨S8x1x4x64, .f32⟩
  | 96 => ⟨S1x1x1x64, .f32⟩
  | 97 => ⟨S8x1x4x64, .f32⟩
  | 98 => ⟨S8x1x4x64, .f32⟩
  | 99 => ⟨S8x1x4x64, .f32⟩
  | 100 => ⟨S1x1x1x64, .f32⟩
  | 101 => ⟨S8x1x4x64, .f32⟩
  | 102 => ⟨S8x1x4x64, .f32⟩
  | 103 => ⟨S1x1x1x64, .f32⟩
  | 104 => ⟨S8x1x4x64, .f32⟩
  | 105 => ⟨S8x1x4x64, .f32⟩
  | 106 => ⟨S8x1x4x64, .f32⟩
  | 107 => ⟨S8x1x4x128, .f32⟩
  | 108 => ⟨S8x1x8x64, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S1, .f32⟩
  | 121 => ⟨S1x1, .f32⟩
  | 122 => ⟨S1x32, .f32⟩
  | 123 => ⟨S1x32, .f32⟩
  | 124 => ⟨S1x32, .f32⟩
  | 125 => ⟨S1x32, .f32⟩
  | 126 => ⟨S1x1x32, .f32⟩
  | 127 => ⟨S1x32, .f32⟩
  | _ => ⟨S8x1x2048, .f32⟩

abbrev hbmTy0_1 (i : Nat) : BufTy := match i % 128 with
  | 0 => ⟨S1x1x32, .f32⟩
  | 1 => ⟨S8x1x8x32, .f32⟩
  | 2 => ⟨S8x1x8x32, .f32⟩
  | 3 => ⟨S1x1x1x32, .f32⟩
  | 4 => ⟨S8x1x8x32, .f32⟩
  | 5 => ⟨S8x1x8x32, .f32⟩
  | 6 => ⟨S1x1x1x32, .f32⟩
  | 7 => ⟨S8x1x8x32, .f32⟩
  | 8 => ⟨S8x1x8x32, .f32⟩
  | 9 => ⟨S8x1x8x32, .f32⟩
  | 10 => ⟨S1x1x1x32, .f32⟩
  | 11 => ⟨S8x1x8x32, .f32⟩
  | 12 => ⟨S8x1x8x32, .f32⟩
  | 13 => ⟨S1x1x1x32, .f32⟩
  | 14 => ⟨S8x1x8x32, .f32⟩
  | 15 => ⟨S8x1x8x32, .f32⟩
  | 16 => ⟨S8x1x8x32, .f32⟩
  | 17 => ⟨S8x1x8x64, .f32⟩
  | 18 => ⟨S8x1x8x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S1, .f32⟩
  | 31 => ⟨S1x1, .f32⟩
  | 32 => ⟨S1x32, .f32⟩
  | 33 => ⟨S1x32, .f32⟩
  | 34 => ⟨S1x32, .f32⟩
  | 35 => ⟨S1x32, .f32⟩
  | 36 => ⟨S1x1x32, .f32⟩
  | 37 => ⟨S1x32, .f32⟩
  | 38 => ⟨S1x1x32, .f32⟩
  | 39 => ⟨S8x1x8x32, .f32⟩
  | 40 => ⟨S8x1x8x32, .f32⟩
  | 41 => ⟨S1x1x1x32, .f32⟩
  | 42 => ⟨S8x1x8x32, .f32⟩
  | 43 => ⟨S8x1x8x32, .f32⟩
  | 44 => ⟨S1x1x1x32, .f32⟩
  | 45 => ⟨S8x1x8x32, .f32⟩
  | 46 => ⟨S8x1x8x32, .f32⟩
  | 47 => ⟨S8x1x8x32, .f32⟩
  | 48 => ⟨S1x1x1x32, .f32⟩
  | 49 => ⟨S8x1x8x32, .f32⟩
  | 50 => ⟨S8x1x8x32, .f32⟩
  | 51 => ⟨S1x1x1x32, .f32⟩
  | 52 => ⟨S8x1x8x32, .f32⟩
  | 53 => ⟨S8x1x8x32, .f32⟩
  | 54 => ⟨S8x1x8x32, .f32⟩
  | 55 => ⟨S8x1x8x64, .f32⟩
  | 56 => ⟨S8x512, .f32⟩
  | 57 => ⟨S8x512, .f32⟩
  | 58 => ⟨S8x512, .f32⟩
  | 59 => ⟨S8x512, .f32⟩
  | 60 => ⟨S8x512, .f32⟩
  | 61 => ⟨S8x512, .f32⟩
  | 62 => ⟨S8x1x512, .f32⟩
  | 63 => ⟨S8x512, .f32⟩
  | 64 => ⟨S8x1x512, .f32⟩
  | 65 => ⟨S8x512, .f32⟩
  | 66 => ⟨S8x512, .f32⟩
  | _ => ⟨S8x1x2048, .f32⟩

abbrev hbmTy (i : Nat) : BufTy := match i / 128 with
  | 0 => hbmTy0_0 i
  | 1 => hbmTy0_1 i
  | _ => ⟨S8x1x2048, .f32⟩

abbrev bufTy : (tb : Table) → Fin (tcTables nBuf tb) → BufTy
  | .hbm, ⟨i, _⟩ => hbmTy i
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_5 : Ref sig .tc := ⟨.hbm, 73, rfl⟩
abbrev main_v63 : Ref sig .tc := ⟨.hbm, 74, rfl⟩
abbrev main_v64 : Ref sig .tc := ⟨.hbm, 75, rfl⟩
abbrev main_cst_6 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_8 : Ref sig .tc := ⟨.hbm, 111, rfl⟩
abbrev main_v98 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_cst_10 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_cst_11 : Ref sig .tc := ⟨.hbm, 149, rfl⟩
abbrev main_v133 : Ref sig .tc := ⟨.hbm, 150, rfl⟩
abbrev main_v134 : Ref sig .tc := ⟨.hbm, 151, rfl⟩
abbrev main_cst_12 : Ref sig .tc := ⟨.hbm, 152, rfl⟩
abbrev main_v135 : Ref sig .tc := ⟨.hbm, 153, rfl⟩
abbrev main_v136 : Ref sig .tc := ⟨.hbm, 154, rfl⟩
abbrev main_cst_13 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩

abbrev nD : Nat := 1
abbrev τ : Topo := Topo.v7x

variable {F : FTy → Type} [FloatOps F]
-- ==== NormS.lean ====
abbrev S8x1x2048 : Shape := ⟨3, ![8, 1, 2048]⟩
abbrev S2048 : Shape := ⟨1, ![2048]⟩
abbrev S8x2048 : Shape := ⟨2, ![8, 2048]⟩
abbrev S1x2048 : Shape := ⟨2, ![1, 2048]⟩
abbrev S8 : Shape := ⟨1, ![8]⟩
abbrev S8x1 : Shape := ⟨2, ![8, 1]⟩

abbrev nBuf : Space → Nat
  | .hbm => 5
  | .vmem => 3
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S8x2048, .f32⟩
  | .hbm, ⟨3, _⟩ => ⟨S1x2048, .f32⟩
  | .hbm, ⟨4, _⟩ => ⟨S8x2048, .f32⟩
  | .local _ .vmem, ⟨0, _⟩ => ⟨S8x2048, .f32⟩
  | .local _ .vmem, ⟨1, _⟩ => ⟨S1x2048, .f32⟩
  | .local _ .vmem, ⟨2, _⟩ => ⟨S8x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S8x1x2048 : Shape := ⟨3, ![8, 1, 2048]⟩
abbrev S2048 : Shape := ⟨1, ![2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x2048 : Shape := ⟨2, ![8, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S2048, .f32⟩
  | .hbm, ⟨2, _⟩ => ⟨S8x1x2048, .f32⟩
  | .hbm, ⟨3, _⟩ => ⟨S_, .f32⟩
  | .hbm, ⟨4, _⟩ => ⟨S8x1, .f32⟩
  | .hbm, ⟨5, _⟩ => ⟨S8x1x1, .f32⟩
  | .hbm, ⟨6, _⟩ => ⟨S_, .f32⟩
  | .hbm, ⟨7, _⟩ => ⟨S8x1x1, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S8x1x1, .f32⟩
  | .hbm, ⟨13, _⟩ => ⟨S8x1x2048, .f32⟩
  | .hbm, ⟨14, _⟩ => ⟨S8x1x2048, .f32⟩
  | .hbm, ⟨15, _⟩ => ⟨S1x1x2048, .f32⟩
  | .hbm, ⟨16, _⟩ => ⟨S8x1x2048, .f32⟩
  | .hbm, ⟨17, _⟩ => ⟨S8x1x2048, .f32⟩
  | .hbm, ⟨18, _⟩ => ⟨S8x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Smix.lean ====
abbrev S8x1x512 : Shape := ⟨3, ![8, 1, 512]⟩
abbrev S512 : Shape := ⟨1, ![512]⟩
abbrev S4x128x128 : Shape := ⟨3, ![4, 128, 128]⟩
abbrev S4x128 : Shape := ⟨2, ![4, 128]⟩
abbrev S8x32x64x2 : Shape := ⟨4, ![8, 32, 64, 2]⟩
abbrev S32x64 : Shape := ⟨2, ![32, 64]⟩
abbrev S32x64x16 : Shape := ⟨3, ![32, 64, 16]⟩
abbrev S32x16x64 : Shape := ⟨3, ![32, 16, 64]⟩
abbrev S512x512 : Shape := ⟨2, ![512, 512]⟩
abbrev S2048 : Shape := ⟨1, ![2048]⟩
abbrev S1x2048 : Shape := ⟨2, ![1, 2048]⟩
abbrev S2x2048 : Shape := ⟨2, ![2, 2048]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S4096x512 : Shape := ⟨2, ![4096, 512]⟩
abbrev S8x32x64x1 : Shape := ⟨4, ![8, 32, 64, 1]⟩
abbrev S8x32x64 : Shape := ⟨3, ![8, 32, 64]⟩
abbrev S8x2048 : Shape := ⟨2, ![8, 2048]⟩
abbrev S8x4096 : Shape := ⟨2, ![8, 4096]⟩
abbrev S4x1x1 : Shape := ⟨3, ![4, 1, 1]⟩
abbrev S4 : Shape := ⟨1, ![4]⟩
abbrev S1x512 : Shape := ⟨2, ![1, 512]⟩
abbrev S4x1 : Shape := ⟨2, ![4, 1]⟩
abbrev S8x512 : Shape := ⟨2, ![8, 512]⟩
abbrev S8 : Shape := ⟨1, ![8]⟩
abbrev S8x1 : Shape := ⟨2, ![8, 1]⟩

abbrev nBuf : Space → Nat
  | .hbm => 109
  | .vmem => 18
  | .smem => 0
  | _ => 0

abbrev bufTy : (tb : Table) → Fin (tcTables nBuf tb) → BufTy
  | .hbm, ⟨0, _⟩ => ⟨S8x1x512, .f32⟩
  | .hbm, ⟨1, _⟩ => ⟨S8x1x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S8x1x512, .f32⟩
  | .hbm, ⟨7, _⟩ => ⟨S8x32x64x2, .f32⟩
  | .hbm, ⟨8, _⟩ => ⟨S32x64, .f32⟩
  | .hbm, ⟨9, _⟩ => ⟨S32x64, .f32⟩
  | .hbm, ⟨10, _⟩ => ⟨S32x64x16, .f32⟩
  | .hbm, ⟨11, _⟩ => ⟨S32x64x16, .f32⟩
  | .hbm, ⟨12, _⟩ => ⟨S32x16x64, .f32⟩
  | .hbm, ⟨13, _⟩ => ⟨S32x16x64, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S2x2048, .f32⟩
  | .hbm, ⟨22, _⟩ => ⟨S32x16x64, .f32⟩
  | .hbm, ⟨23, _⟩ => ⟨S32x32, .i32⟩
  | .hbm, ⟨24, _⟩ => ⟨S32x32, .i32⟩
  | .hbm, ⟨25, _⟩ => ⟨S_, .i32⟩
  | .hbm, ⟨26, _⟩ => ⟨S32x32, .i32⟩
  | .hbm, ⟨27, _⟩ => ⟨S32x32, .i32⟩
  | .hbm, ⟨28, _⟩ => ⟨S32x32, .i1⟩
  | .hbm, ⟨29, _⟩ => ⟨S32x32, .f32⟩
  | .hbm, ⟨30, _⟩ => ⟨S32x16x1x64, .f32⟩
  | .hbm, ⟨31, _⟩ => ⟨S32x1x32x1, .f32⟩
  | .hbm, ⟨32, _⟩ => ⟨S32x16x32x64, .f32⟩
  | .hbm, ⟨33, _⟩ => ⟨S32x16x32x64, .f32⟩
  | .hbm, ⟨34, _⟩ => ⟨S32x16x32x64, .f32⟩
  | .hbm, ⟨35, _⟩ => ⟨S512x2048, .f32⟩
  | .hbm, ⟨36, _⟩ => ⟨S32x16x64, .f32⟩
  | .hbm, ⟨37, _⟩ => ⟨S32x32, .i32⟩
  | .hbm, ⟨38, _⟩ => ⟨S32x32, .i32⟩
  | .hbm, ⟨39, _⟩ => ⟨S_, .i32⟩
  | .hbm, ⟨40, _⟩ => ⟨S32x32, .i32⟩
  | .hbm, ⟨41, _⟩ => ⟨S32x32, .i32⟩
  | .hbm, ⟨42, _⟩ => ⟨S32x32, .i1⟩
  | .hbm, ⟨43, _⟩ => ⟨S32x32, .f32⟩
  | .hbm, ⟨44, _⟩ => ⟨S32x16x1x64, .f32⟩
  | .hbm, ⟨45, _⟩ => ⟨S32x1x32x1, .f32⟩
  | .hbm, ⟨46, _⟩ => ⟨S32x16x32x64, .f32⟩
  | .hbm, ⟨47, _⟩ => ⟨S32x16x32x64, .f32⟩
  | .hbm, ⟨48, _⟩ => ⟨S32x16x32x64, .f32⟩
  | .hbm, ⟨49, _⟩ => ⟨S512x2048, .f32⟩
  | .hbm, ⟨50, _⟩ => ⟨S512x4096, .f32⟩
  | .hbm, ⟨51, _⟩ => ⟨S32x64x16, .f32⟩
  | .hbm, ⟨52, _⟩ => ⟨S32x64x16, .f32⟩
  | .hbm, ⟨53, _⟩ => ⟨S32x32, .i32⟩
  | .hbm, ⟨54, _⟩ => ⟨S32x32, .i32⟩
  | .hbm, ⟨55, _⟩ => ⟨S_, .i32⟩
  | .hbm, ⟨56, _⟩ => ⟨S32x32, .i32⟩
  | .hbm, ⟨57, _⟩ => ⟨S32x32, .i32⟩
  | .hbm, ⟨58, _⟩ => ⟨S32x32, .i1⟩
  | .hbm, ⟨59, _⟩ => ⟨S32x32, .f32⟩
  | .hbm, ⟨60, _⟩ => ⟨S32x64x1x16, .f32⟩
  | .hbm, ⟨61, _⟩ => ⟨S32x1x32x1, .f32⟩
  | .hbm, ⟨62, _⟩ => ⟨S32x64x32x16, .f32⟩
  | .hbm, ⟨63, _⟩ => ⟨S32x64x32x16, .f32⟩
  | .hbm, ⟨64, _⟩ => ⟨S32x64x32x16, .f32⟩
  | .hbm, ⟨65, _⟩ => ⟨S2048x512, .f32⟩
  | .hbm, ⟨66, _⟩ => ⟨S32x64x16, .f32⟩
  | .hbm, ⟨67, _⟩ => ⟨S32x32, .i32⟩
  | .hbm, ⟨68, _⟩ => ⟨S32x32, .i32⟩
  | .hbm, ⟨69, _⟩ => ⟨S_, .i32⟩
  | .hbm, ⟨70, _⟩ => ⟨S32x32, .i32⟩
  | .hbm, ⟨71, _⟩ => ⟨S32x32, .i32⟩
  | .hbm, ⟨72, _⟩ => ⟨S32x32, .i1⟩
  | .hbm, ⟨73, _⟩ => ⟨S32x32, .f32⟩
  | .hbm, ⟨74, _⟩ => ⟨S32x64x1x16, .f32⟩
  | .hbm, ⟨75, _⟩ => ⟨S32x1x32x1, .f32⟩
  | .hbm, ⟨76, _⟩ => ⟨S32x64x32x16, .f32⟩
  | .hbm, ⟨77, _⟩ => ⟨S32x64x32x16, .f32⟩
  | .hbm, ⟨78, _⟩ => ⟨S32x64x32x16, .f32⟩
  | .hbm, ⟨79, _⟩ => ⟨S2048x512, .f32⟩
  | .hbm, ⟨80, _⟩ => ⟨S4096x512, .f32⟩
  | .hbm, ⟨81, _⟩ => ⟨S8x32x64x1, .f32⟩
  | .hbm, ⟨82, _⟩ => ⟨S8x32x64, .f32⟩
  | .hbm, ⟨83, _⟩ => ⟨S8x2048, .f32⟩
  | .hbm, ⟨84, _⟩ => ⟨S8x32x64x1, .f32⟩
  | .hbm, ⟨85, _⟩ => ⟨S8x32x64, .f32⟩
  | .hbm, ⟨86, _⟩ => ⟨S8x2048, .f32⟩
  | .hbm, ⟨87, _⟩ => ⟨S8x4096, .f32⟩
  | .hbm, ⟨88, _⟩ => ⟨S4x1x1, .f32⟩
  | .hbm, ⟨89, _⟩ => ⟨S4, .f32⟩
  | .hbm, ⟨90, _⟩ => ⟨S4x128, .f32⟩
  | .hbm, ⟨91, _⟩ => ⟨S512, .f32⟩
  | .hbm, ⟨92, _⟩ => ⟨S1x512, .f32⟩
  | .hbm, ⟨93, _⟩ => ⟨S4x1, .f32⟩
  | .hbm, ⟨94, _⟩ => ⟨S4, .f32⟩
  | .hbm, ⟨95, _⟩ => ⟨S4x128, .f32⟩
  | .hbm, ⟨96, _⟩ => ⟨S512, .f32⟩
  | .hbm, ⟨97, _⟩ => ⟨S1x512, .f32⟩
  | .hbm, ⟨98, _⟩ => ⟨S8x512, .f32⟩
  | .hbm, ⟨99, _⟩ => ⟨S8x512, .f32⟩
  | .hbm, ⟨100, _⟩ => ⟨S1x512, .f32⟩
  | .hbm, ⟨101, _⟩ => ⟨S1x512, .f32⟩
  | .hbm, ⟨102, _⟩ => ⟨S8x512, .f32⟩
  | .hbm, ⟨103, _⟩ => ⟨S1x512, .f32⟩
  | .hbm, ⟨104, _⟩ => ⟨S1x512, .f32⟩
  | .hbm, ⟨105, _⟩ => ⟨S8x512, .bf16⟩
  | .hbm, ⟨106, _⟩ => ⟨S8x512, .f32⟩
  | .hbm, ⟨107, _⟩ => ⟨S8x512, .bf16⟩
  | .hbm, ⟨108, _⟩ => ⟨S8x4096, .f32⟩
  | .local _ .vmem, ⟨0, _⟩ => ⟨S8x512, .f32⟩
  | .local _ .vmem, ⟨1, _⟩ => ⟨S8x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S8x512, .f32⟩
  | .local _ .vmem, ⟨7, _⟩ => ⟨S8x4096, .f32⟩
  | .local _ .vmem, ⟨8, _⟩ => ⟨S2x2048, .f32⟩
  | .local _ .vmem, ⟨9, _⟩ => ⟨S512x4096, .f32⟩
  | .local _ .vmem, ⟨10, _⟩ => ⟨S4096x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S8x512, .bf16⟩
  | .local _ .vmem, ⟨15, _⟩ => ⟨S8x512, .f32⟩
  | .local _ .vmem, ⟨16, _⟩ => ⟨S8x512, .bf16⟩
  | .local _ .vmem, ⟨17, _⟩ => ⟨S8x4096, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84_0 : Ref sig .tc := ⟨.hbm, 105, rfl⟩
abbrev main_v84_1 : Ref sig .tc := ⟨.hbm, 106, rfl⟩
abbrev main_v84_2 : Ref sig .tc := ⟨.hbm, 107, rfl⟩
abbrev main_v84_3 : Ref sig .tc := ⟨.hbm, 108, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== SmixRefIdeal.lean ====
abbrev S8x1x512 : Shape := ⟨3, ![8, 1, 512]⟩
abbrev S512 : Shape := ⟨1, ![512]⟩
abbrev S4x128x128 : Shape := ⟨3, ![4, 128, 128]⟩
abbrev S4x128 : Shape := ⟨2, ![4, 128]⟩
abbrev S8x32x64x2 : Shape := ⟨4, ![8, 32, 64, 2]⟩
abbrev S32x64 : Shape := ⟨2, ![32, 64]⟩
abbrev S32x64x16 : Shape := ⟨3, ![32, 64, 16]⟩
abbrev S32x16x64 : Shape := ⟨3, ![32, 16, 64]⟩
abbrev S512x512 : Shape := ⟨2, ![512, 512]⟩
abbrev S_ : Shape := ⟨0, ![]⟩
abbrev S8x1 : Shape := ⟨2, ![8, 1]⟩
abbrev S8x1x1 : Shape := ⟨3, ![8, 1, 1]⟩
abbrev S1x1x512 : Shape := ⟨3, ![1, 1, 512]⟩
abbrev S8x1x1x4x128 : Shape := ⟨5, ![8, 1, 1, 4, 128]⟩
abbrev S1x1 : Shape := ⟨2, ![1, 1]⟩
abbrev S1x1x1 : Shape := ⟨3, ![1, 1, 1]⟩
abbrev S4x1x1 : Shape := ⟨3, ![4, 1, 1]⟩
abbrev S4x8x1x128x1 : Shape := ⟨5, ![4, 8, 1, 128, 1]⟩
abbrev S4x1 : Shape := ⟨2, ![4, 1]⟩
abbrev S1x4 : Shape := ⟨2, ![1, 4]⟩
abbrev S1x1x1x4x1 : Shape := ⟨5, ![1, 1, 1, 4, 1]⟩
abbrev S8x32x16 : Shape := ⟨3, ![8, 32, 16]⟩
abbrev S8x32x64x1 : Shape := ⟨4, ![8, 32, 64, 1]⟩
abbrev S8x32x64 : Shape := ⟨3, ![8, 32, 64]⟩
abbrev S1x32x64 : Shape := ⟨3, ![1, 32, 64]⟩
abbrev S8x32x1x16 : Shape := ⟨4, ![8, 32, 1, 16]⟩
abbrev S1x32x64x16 : Shape := ⟨4, ![1, 32, 64, 16]⟩
abbrev S8x32x64x16 : Shape := ⟨4, ![8, 32, 64, 16]⟩
abbrev S8x32x1x64 : Shape := ⟨4, ![8, 32, 1, 64]⟩
abbrev S1x32x16x64 : Shape := ⟨4, ![1, 32, 16, 64]⟩
abbrev S8x32x16x64 : Shape := ⟨4, ![8, 32, 16, 64]⟩
abbrev S32x16 : Shape := ⟨2, ![32, 16]⟩
abbrev S1x32x16 : Shape := ⟨3, ![1, 32, 16]⟩
abbrev S8x512 : Shape := ⟨2, ![8, 512]⟩
abbrev S1x512 : Shape := ⟨2, ![1, 512]⟩
abbrev S8x2048 : Shape := ⟨2, ![8, 2048]⟩
abbrev S8x4096 : Shape := ⟨2, ![8, 4096]⟩

abbrev nBuf : Space → Nat
  | .hbm => 173
  | .vmem => 0
  | .smem => 0
  | _ => 0

abbrev hbmTy0_0 (i : Nat) : BufTy := match i % 128 with
  | 0 => ⟨S8x1x512, .f32⟩
  | 1 => ⟨S8x1x512, .f32⟩
  | 2 => ⟨S512, .f32⟩
  | 3 => ⟨S512, .f32⟩
  | 4 => ⟨S4x128x128, .f32⟩
  | 5 => ⟨S4x128, .f32⟩
  | 6 => ⟨S8x1x512, .f32⟩
  | 7 => ⟨S8x32x64x2, .f32⟩
  | 8 => ⟨S32x64, .f32⟩
  | 9 => ⟨S32x64, .f32⟩
  | 10 => ⟨S32x64x16, .f32⟩
  | 11 => ⟨S32x64x16, .f32⟩
  | 12 => ⟨S32x16x64, .f32⟩
  | 13 => ⟨S32x16x64, .f32⟩
  | 14 => ⟨S512, .f32⟩
  | 15 => ⟨S512x512, .f32⟩
  | 16 => ⟨S512, .f32⟩
  | 17 => ⟨S_, .f32⟩
  | 18 => ⟨S8x1x512, .f32⟩
  | 19 => ⟨S8x1x512, .f32⟩
  | 20 => ⟨S8x1x512, .f32⟩
  | 21 => ⟨S_, .f32⟩
  | 22 => ⟨S8x1x512, .f32⟩
  | 23 => ⟨S8x1x512, .f32⟩
  | 24 => ⟨S8x1x512, .f32⟩
  | 25 => ⟨S8x1x512, .f32⟩
  | 26 => ⟨S_, .f32⟩
  | 27 => ⟨S8x1x512, .f32⟩
  | 28 => ⟨S8x1x512, .f32⟩
  | 29 => ⟨S8x1x512, .f32⟩
  | 30 => ⟨S_, .f32⟩
  | 31 => ⟨S8x1x512, .f32⟩
  | 32 => ⟨S8x1x512, .f32⟩
  | 33 => ⟨S8x1x512, .f32⟩
  | 34 => ⟨S8x1x512, .f32⟩
  | 35 => ⟨S_, .f32⟩
  | 36 => ⟨S8x1, .f32⟩
  | 37 => ⟨S8x1x1, .f32⟩
  | 38 => ⟨S_, .f32⟩
  | 39 => ⟨S8x1x1, .f32⟩
  | 40 => ⟨S8x1x1, .f32⟩
  | 41 => ⟨S8x1x512, .f32⟩
  | 42 => ⟨S8x1x512, .f32⟩
  | 43 => ⟨S8x1x512, .f32⟩
  | 44 => ⟨S_, .f32⟩
  | 45 => ⟨S8x1, .f32⟩
  | 46 => ⟨S8x1x1, .f32⟩
  | 47 => ⟨S_, .f32⟩
  | 48 => ⟨S8x1x1, .f32⟩
  | 49 => ⟨S8x1x1, .f32⟩
  | 50 => ⟨S_, .f32⟩
  | 51 => ⟨S8x1x1, .f32⟩
  | 52 => ⟨S8x1x1, .f32⟩
  | 53 => ⟨S8x1x1, .f32⟩
  | 54 => ⟨S8x1x512, .f32⟩
  | 55 => ⟨S8x1x512, .f32⟩
  | 56 => ⟨S1x1x512, .f32⟩
  | 57 => ⟨S8x1x512, .f32⟩
  | 58 => ⟨S8x1x512, .f32⟩
  | 59 => ⟨S1x1x512, .f32⟩
  | 60 => ⟨S8x1x512, .f32⟩
  | 61 => ⟨S8x1x512, .f32⟩
  | 62 => ⟨S8x1x1x4x128, .f32⟩
  | 63 => ⟨S_, .i1⟩
  | 64 => ⟨S1x1, .i1⟩
  | 65 => ⟨S1x1, .i32⟩
  | 66 => ⟨S_, .i32⟩
  | 67 => ⟨S1x1, .i32⟩
  | 68 => ⟨S1x1, .i32⟩
  | 69 => ⟨S1x1, .i32⟩
  | 70 => ⟨S1x1, .i1⟩
  | 71 => ⟨S_, .i1⟩
  | 72 => ⟨S1x1, .i1⟩
  | 73 => ⟨S1x1, .i1⟩
  | 74 => ⟨S1x1x1, .i1⟩
  | 75 => ⟨S4x1x1, .f32⟩
  | 76 => ⟨S_, .f32⟩
  | 77 => ⟨S_, .f32⟩
  | 78 => ⟨S4x1x1, .i1⟩
  | 79 => ⟨S4x1x1, .f32⟩
  | 80 => ⟨S4x1x1, .f32⟩
  | 81 => ⟨S4x8x1x128x1, .f32⟩
  | 82 => ⟨S8x1x1x4x128, .f32⟩
  | 83 => ⟨S4x1, .f32⟩
  | 84 => ⟨S1x4, .f32⟩
  | 85 => ⟨S1x1x1x4x1, .f32⟩
  | 86 => ⟨S8x1x1x4x128, .f32⟩
  | 87 => ⟨S8x1x1x4x128, .f32⟩
  | 88 => ⟨S8x1x512, .f32⟩
  | 89 => ⟨S8x1x512, .f32⟩
  | 90 => ⟨S8x32x16, .f32⟩
  | 91 => ⟨S8x32x64x1, .f32⟩
  | 92 => ⟨S8x32x64, .f32⟩
  | 93 => ⟨S8x32x64x1, .f32⟩
  | 94 => ⟨S8x32x64, .f32⟩
  | 95 => ⟨S1x32x64, .f32⟩
  | 96 => ⟨S8x32x64, .f32⟩
  | 97 => ⟨S8x32x64, .f32⟩
  | 98 => ⟨S1x32x64, .f32⟩
  | 99 => ⟨S8x32x64, .f32⟩
  | 100 => ⟨S8x32x64, .f32⟩
  | 101 => ⟨S8x32x64, .f32⟩
  | 102 => ⟨S8x32x1x16, .f32⟩
  | 103 => ⟨S1x32x64x16, .f32⟩
  | 104 => ⟨S8x32x64x16, .f32⟩
  | 105 => ⟨S8x32x64x16, .f32⟩
  | 106 => ⟨S8x32x64x16, .f32⟩
  | 107 => ⟨S_, .f32⟩
  | 108 => ⟨S8x32x64, .f32⟩
  | 109 => ⟨S8x32x64, .f32⟩
  | 110 => ⟨S1x32x64, .f32⟩
  | 111 => ⟨S8x32x64, .f32⟩
  | 112 => ⟨S8x32x64, .f32⟩
  | 113 => ⟨S1x32x64, .f32⟩
  | 114 => ⟨S8x32x64, .f32⟩
  | 115 => ⟨S8x32x64, .f32⟩
  | 116 => ⟨S8x32x64, .f32⟩
  | 117 => ⟨S8x32x1x16, .f32⟩
  | 118 => ⟨S1x32x64x16, .f32⟩
  | 119 => ⟨S8x32x64x16, .f32⟩
  | 120 => ⟨S8x32x64x16, .f32⟩
  | 121 => ⟨S8x32x64x16, .f32⟩
  | 122 => ⟨S_, .f32⟩
  | 123 => ⟨S8x32x64, .f32⟩
  | 124 => ⟨S8x32x64, .f32⟩
  | 125 => ⟨S8x32x1x64, .f32⟩
  | 126 => ⟨S1x32x16x64, .f32⟩
  | 127 => ⟨S8x32x16x64, .f32⟩
  | _ => ⟨S8x1x512, .f32⟩

abbrev hbmTy0_1 (i : Nat) : BufTy := match i % 128 with
  | 0 => ⟨S8x32x16x64, .f32⟩
  | 1 => ⟨S8x32x16x64, .f32⟩
  | 2 => ⟨S8x32x1x64, .f32⟩
  | 3 => ⟨S1x32x16x64, .f32⟩
  | 4 => ⟨S8x32x16x64, .f32⟩
  | 5 => ⟨S8x32x16x64, .f32⟩
  | 6 => ⟨S8x32x16x64, .f32⟩
  | 7 => ⟨S8x32x16x64, .f32⟩
  | 8 => ⟨S_, .f32⟩
  | 9 => ⟨S8x32x16, .f32⟩
  | 10 => ⟨S32x16, .f32⟩
  | 11 => ⟨S1x32x16, .f32⟩
  | 12 => ⟨S8x32x16, .f32⟩
  | 13 => ⟨S8x32x16, .f32⟩
  | 14 => ⟨S8x32x16, .f32⟩
  | 15 => ⟨S8x512, .f32⟩
  | 16 => ⟨S_, .f32⟩
  | 17 => ⟨S8x512, .f32⟩
  | 18 => ⟨S8x512, .f32⟩
  | 19 => ⟨S8x512, .f32⟩
  | 20 => ⟨S_, .f32⟩
  | 21 => ⟨S8x512, .f32⟩
  | 22 => ⟨S8x512, .f32⟩
  | 23 => ⟨S8x512, .f32⟩
  | 24 => ⟨S8x512, .f32⟩
  | 25 => ⟨S8x512, .f32⟩
  | 26 => ⟨S1x512, .f32⟩
  | 27 => ⟨S8x512, .f32⟩
  | 28 => ⟨S8x512, .f32⟩
  | 29 => ⟨S8x512, .f32⟩
  | 30 => ⟨S8x512, .f32⟩
  | 31 => ⟨S_, .f32⟩
  | 32 => ⟨S8x512, .f32⟩
  | 33 => ⟨S8x512, .f32⟩
  | 34 => ⟨S_, .f32⟩
  | 35 => ⟨S8x512, .f32⟩
  | 36 => ⟨S8x512, .f32⟩
  | 37 => ⟨S8x512, .f32⟩
  | 38 => ⟨S8x2048, .f32⟩
  | 39 => ⟨S8x2048, .f32⟩
  | 40 => ⟨S8x4096, .f32⟩
  | 41 => ⟨S8x512, .f32⟩
  | 42 => ⟨S8x512, .bf16⟩
  | 43 => ⟨S8x512, .f32⟩
  | 44 => ⟨S8x512, .bf16⟩
  | _ => ⟨S8x1x512, .f32⟩

abbrev hbmTy (i : Nat) : BufTy := match i / 128 with
  | 0 => hbmTy0_0 i
  | 1 => hbmTy0_1 i
  | _ => ⟨S8x1x512, .f32⟩

abbrev bufTy : (tb : Table) → Fin (tcTables nBuf tb) → BufTy
  | .hbm, ⟨i, _⟩ => hbmTy i
  | _, _ => ⟨S8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c : Ref sig .tc := ⟨.hbm, 63, rfl⟩
abbrev main_v37 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_9 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_10 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_11 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_12 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_13 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_14 : Ref sig .tc := ⟨.hbm, 159, rfl⟩
abbrev main_v115 : Ref sig .tc := ⟨.hbm, 160, rfl⟩
abbrev main_v116 : Ref sig .tc := ⟨.hbm, 161, rfl⟩
abbrev main_cst_15 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩

abbrev nD : Nat := 1
abbrev τ : Topo := Topo.v7x

variable {F : FTy → Type} [FloatOps F]
-- ==== Proof.Ffn.lean ====
/- The claims about the feed-forward call: its frames, and that at the extended reals it computes the
   reference's residual plus the gated feed-forward of the normalised rows. Hand-written, untrusted. -/
module

public import Idealize.ShloMosaic.Lib.Pipeline.ReadBack
public import proofs.«01_k».proof.Defs
public import proofs.«01_k».proof.Proof.Gen.Ffn.Frame
public import proofs.«01_k».proof.Proof.Gen.FfnIdeal.Frame
public import proofs.«01_k».proof.Proof.Gen.FfnRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.FfnClaims

/-- The kernel leaves its arguments alone and its counters at zero, on words. -/
theorem frame_p : Cert.quiescent_Ffn := fun m ρ _ => Cert.Ffn.Gen.frame m ρ
/-- The same, of the kernel read at the extended reals. -/
theorem frame_pi : Cert.quiescent_FfnIdeal := fun m ρ _ => Cert.FfnIdeal.Gen.frame m ρ
/-- The reference leaves its arguments alone; it has no counter. -/
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)
/-- Nothing was rewritten on the way to the extended reals. -/
theorem preserves : Cert.preserves_Ffn_FfnIdeal := trivial

open Cert.FfnIdeal Cert.FfnIdeal.Gen

/-- Each window's block at each point of the grid: point `t` reads row block `t / 11` and hidden block `t % 11`. -/
theorem idx : ∀ t : Fin cfg0.N, win0_0.index t = ![t.val / 11, 0] ∧ win0_1.index t = ![0, 0]
    ∧ win0_2.index t = ![0, t.val % 11] ∧ win0_3.index t = ![0, t.val % 11] ∧ win0_4.index t = ![t.val % 11, 0]
    ∧ win0_5.index t = ![t.val / 11, 0] :=
  (by decide +kernel : ∀ t : Fin grid0.N, _)

/-- One element of a normalised row: `row` is the row it lies in, `g` the gain of its column. -/
def normAt (row : Fin 2048 → EReal) (j : Fin 2048) (g : EReal) : EReal :=
  row j * Ideal.rsqrt (Ideal.div (∑ k, row k * row k) (Ideal.ofBits FTy.f32 1157627904#32)
    + Ideal.ofBits FTy.f32 897988541#32) * g

/-- The scratch's contents, at an index. -/
theorem pay2_at (x : FVec Ideal S512x2048 .f32) (g : FVec Ideal S1x2048 .f32) (y : S512x2048.Idx) :
    k0_pay2 (F := Ideal) x g y = normAt (fun k => x (ix2 (y 0) k)) (y 1) (g (ix2 0 (y 1))) := by
  pointwise [k0_pay2, k0_pay1, normAt]

/-- One hidden unit: the normalised row `h` against the unit's gate and up columns, gated by the logistic function. -/
def actAt (h wg wu : Fin 2048 → EReal) : EReal :=
  (∑ k, h k * wg k) * Ideal.div 1 (1 + Ideal.exp (-∑ k, h k * wg k)) * ∑ k, h k * wu k

/-- What a point adds to the output, at an index: 512 hidden units' share. -/
theorem pay3_at (h : FVec Ideal S512x2048 .bf16) (wg wu : FVec Ideal S2048x512 .bf16) (acc : FVec Ideal S512x2048 .f32)
    (wd : FVec Ideal S512x2048 .bf16) (y : S512x2048.Idx) :
    k0_pay3 (F := Ideal) h wg wu acc wd y = acc y + ∑ j : Fin 512, actAt (fun k => h (ix2 (y 0) k))
      (fun k => wg (ix2 k j)) (fun k => wu (ix2 k j)) * wd (ix2 j (y 1)) := by
  pointwise [k0_pay3, actAt, zero_sub]

/-- The reference's normalised rows. -/
def refNorm (x : FVec Ideal FfnRefIdeal.S2x4096x2048 .f32) (g : FVec Ideal FfnRefIdeal.S2048 .f32) :
    FVec Ideal FfnRefIdeal.S2x4096x2048 .f32 :=
  (mulf
                  (mulf x
                    (broadcastInDim FfnRefIdeal.S2x4096x2048 ![0, 1, 2]
                      FfnRefIdeal.Gen.bcast_S2x4096x1_S2x4096x2048_0_1_2
                      (Host.rsqrt
                        (addf
                          (Host.divf
                            (broadcastInDim FfnRefIdeal.S2x4096x1 ![0, 1] FfnRefIdeal.Gen.bcast_S2x4096_S2x4096x1_0_1
                              (Host.reduceAdd (mulf x x)
                                (constant FfnRefIdeal.S_ FTy.f32 0#32) FfnRefIdeal.Gen.reducesTo_S2x4096x2048_S2x4096_d2
                                FfnRefIdeal.Gen.h_S_))
                            (broadcastInDim FfnRefIdeal.S2x4096x1 ![] FfnRefIdeal.Gen.bcast_S_S2x4096x1
                              (constant FfnRefIdeal.S_ FTy.f32 1157627904#32)))
                          (broadcastInDim FfnRefIdeal.S2x4096x1 ![] FfnRefIdeal.Gen.bcast_S_S2x4096x1
                            (constant FfnRefIdeal.S_ FTy.f32 897988541#32))))))
                  (broadcastInDim FfnRefIdeal.S2x4096x2048 ![0, 1, 2] FfnRefIdeal.Gen.bcast_S1x1x2048_S2x4096x2048_0_1_2
                    (broadcastInDim FfnRefIdeal.S1x1x2048 ![2] FfnRefIdeal.Gen.bcast_S2048_S1x1x2048_2
                      g)))

/-- The reference's result, over its normalised rows `h`. -/
def refTerm (x h : FVec Ideal FfnRefIdeal.S2x4096x2048 .f32) (wg wu : FVec Ideal FfnRefIdeal.S2048x5632 .f32)
    (wd : FVec Ideal FfnRefIdeal.S5632x2048 .f32) : FVec Ideal FfnRefIdeal.S8192x2048 .f32 :=
  shapeCast FfnRefIdeal.S8192x2048
      (addf x
        (Host.dotGeneral FfnRefIdeal.dot_S2x4096x5632_S5632x2048_S2x4096x2048_2_0_01_1_n_n none
          (mulf
            (mulf
              (Host.dotGeneral FfnRefIdeal.dot_S2x4096x2048_S2048x5632_S2x4096x5632_2_0_01_1_n_n none h wg)
              (Host.divf
                (broadcastInDim FfnRefIdeal.S2x4096x5632 ![] FfnRefIdeal.Gen.bcast_S_S2x4096x5632
                  (constant FfnRefIdeal.S_ FTy.f32 1065353216#32))
                (addf
                  (broadcastInDim FfnRefIdeal.S2x4096x5632 ![] FfnRefIdeal.Gen.bcast_S_S2x4096x5632
                    (constant FfnRefIdeal.S_ FTy.f32 1065353216#32))
                  (Host.exp
                    (Host.negf
                      (Host.dotGeneral FfnRefIdeal.dot_S2x4096x2048_S2048x5632_S2x4096x5632_2_0_01_1_n_n none h wg))))))
            (Host.dotGeneral FfnRefIdeal.dot_S2x4096x2048_S2048x5632_S2x4096x5632_2_0_01_1_n_n none h wu))
          wd))
      FfnRefIdeal.Gen.shapeCasts_S2x4096x2048_S8192x2048

/-- Row `r` of the layer's input, the two leading axes read as one. -/
def row (x : FVec Ideal FfnRefIdeal.S2x4096x2048 .f32) (r : Fin 8192) (k : Fin 2048) : EReal :=
  shapeCast (α := EReal) FfnRefIdeal.S8192x2048 x FfnRefIdeal.Gen.shapeCasts_S2x4096x2048_S8192x2048 (ix2 r k)

/-- That row, in the argument's own indices. -/
theorem row_at (x : FVec Ideal FfnRefIdeal.S2x4096x2048 .f32) (r : Fin 8192) (k : Fin 2048) :
    row x r k = x (ix3 ⟨r.val / 4096, by omega⟩ ⟨r.val % 4096, by omega⟩ k) := by
  pointwise [row]

/-- The reference's normalised rows at an index. -/
theorem refNorm_at (x : FVec Ideal FfnRefIdeal.S2x4096x2048 .f32) (g : FVec Ideal FfnRefIdeal.S2048 .f32)
    (r : Fin 8192) (k : Fin 2048) :
    refNorm x g (ix3 ⟨r.val / 4096, by omega⟩ ⟨r.val % 4096, by omega⟩ k) = normAt (row x r) k (g (ix1 k)) := by
  rw [show row x r = fun k => x (ix3 ⟨r.val / 4096, by omega⟩ ⟨r.val % 4096, by omega⟩ k) from funext (row_at x r)]
  pointwise [refNorm, normAt]

/-- The reference at an index. -/
theorem ref_at (x : FVec Ideal FfnRefIdeal.S2x4096x2048 .f32) (g : FVec Ideal FfnRefIdeal.S2048 .f32)
    (wg wu : FVec Ideal FfnRefIdeal.S2048x5632 .f32) (wd : FVec Ideal FfnRefIdeal.S5632x2048 .f32)
    (r : Fin 8192) (q : Fin 2048) :
    refTerm x (refNorm x g) wg wu wd (ix2 r q) = row x r q + ∑ j : Fin 5632,
      actAt (fun k => normAt (row x r) k (g (ix1 k))) (fun k => wg (ix2 k j)) (fun k => wu (ix2 k j)) * wd (ix2 j q) := by
  rw [← show (fun k => refNorm x g (ix3 ⟨r.val / 4096, by omega⟩ ⟨r.val % 4096, by omega⟩ k))
    = (fun k => normAt (row x r) k (g (ix1 k))) from funext (refNorm_at x g r), row_at]
  generalize refNorm x g = h
  pointwise [refTerm, actAt]

variable (m : (ℓ : Loc nD τ sig) → Buf (Elt Ideal) ℓ) (c : Dev nD)

/-- The row of the layer's input that row `r` of point `t`'s block is. -/
abbrev rowOf (t : Fin cfg0.N) (r : Fin 512) : Fin 8192 :=
  ⟨512 * (t.val / 11) + r.val, by have h : t.val < 176 := t.isLt; omega⟩

/-- What the input window holds at a point. -/
theorem blk0 (t : Fin cfg0.N) (r : Fin 512) (k : Fin 2048) :
    iblk m c 0 t (ix2 r k) = row (m (c.tc.loc main_arg0)) (rowOf t r) k := by
  show _ = shapeCast (α := EReal) _ _ _ _
  blk_point [iblk, V, idx t]

/-- What the gain's window holds at a point. -/
theorem blk1 (t : Fin cfg0.N) (k : Fin 2048) : iblk m c 1 t (ix2 0 k) = m (c.tc.loc main_arg1) (ix1 k) := by
  blk_point [iblk, V, idx t]

/-- What the gate weight's window holds at a point. -/
theorem blk2 (t : Fin cfg0.N) (k : Fin 2048) (j : Fin 512) :
    iblk m c 2 t (ix2 k j) = m (c.tc.loc main_arg2) (ix2 k ⟨t.val % 11 * 512 + j.val, by omega⟩) := by
  blk_point [iblk, V, idx t]

/-- What the up weight's window holds at a point. -/
theorem blk3 (t : Fin cfg0.N) (k : Fin 2048) (j : Fin 512) :
    iblk m c 3 t (ix2 k j) = m (c.tc.loc main_arg3) (ix2 k ⟨t.val % 11 * 512 + j.val, by omega⟩) := by
  blk_point [iblk, V, idx t]

/-- What the down weight's window holds at a point. -/
theorem blk4 (t : Fin cfg0.N) (j : Fin 512) (q : Fin 2048) :
    iblk m c 4 t (ix2 j q) = m (c.tc.loc main_arg4) (ix2 ⟨t.val % 11 * 512 + j.val, by omega⟩ q) := by
  blk_point [iblk, V, idx t]

/-- The normalised row `r` of point `t`'s block. -/
def hid (t : Fin cfg0.N) (r : Fin 512) (k : Fin 2048) : EReal :=
  normAt (row (m (c.tc.loc main_arg0)) (rowOf t r)) k (m (c.tc.loc main_arg1) (ix1 k))

/-- The scratch at a point that resets it. -/
theorem scr_reset (t : Fin cfg0.N) (r : Fin 512) (k : Fin 2048) :
    k0_pay2 (F := Ideal) (iblk m c 0 t) (iblk m c 1 t) (ix2 r k) = hid m c t r k :=
  (pay2_at _ _ _).trans (congrArg₂ (fun a b => normAt a k b) (funext (blk0 m c t r)) (blk1 m c t k))

/-- Two points of one run read the same rows. -/
theorem hid_prev (t : Fin cfg0.N) (h : ¬ t.val % 11 = 0) (hp : t.val - 1 < cfg0.N) (r : Fin 512) (k : Fin 2048) :
    hid m c ⟨t.val - 1, hp⟩ r k = hid m c t r k := by
  have e : rowOf ⟨t.val - 1, hp⟩ r = rowOf t r :=
    Fin.ext (by show 512 * ((t.val - 1) / 11) + r.val = 512 * (t.val / 11) + r.val; omega)
  unfold hid
  rw [e]

/-- After every point the scratch holds the normalised rows of that point's row block. -/
theorem scr (n : ℕ) : ∀ (hn : n < cfg0.N) (r : Fin 512) (k : Fin 2048),
    (outsAt0 m c n hn).2 (ix2 r k) = hid m c ⟨n, hn⟩ r k := by
  induction n with
  | zero =>
    intro hn r k
    rw [outsAt0_A m c ⟨0, hn⟩ rfl]
    frame_out
    exact scr_reset m c ⟨0, hn⟩ r k
  | succ n ih =>
    intro hn r k
    by_cases h : (n + 1) % 11 = 0
    · rw [outsAt0_A m c ⟨n + 1, hn⟩ h]
      frame_out
      exact scr_reset m c ⟨n + 1, hn⟩ r k
    · rw [outsAt0_B m c ⟨n + 1, hn⟩ h]
      dsimp only [sout0_B_0]
      have hi : ∀ p hp, p = n → (outsAt0 m c p hp).2 (ix2 r k) = hid m c ⟨p, hp⟩ r k := by
        rintro p hp rfl
        exact ih hp r k
      exact (hi _ _ (Nat.add_sub_cancel n 1)).trans (hid_prev m c ⟨n + 1, hn⟩ h _ r k)

/-- What a point's 512 hidden units contribute to an element. -/
def part (t : Fin cfg0.N) (r : Fin 512) (q : Fin 2048) : EReal :=
  ∑ j : Fin 512, actAt (hid m c t r)
    (fun k => m (c.tc.loc main_arg2) (ix2 k ⟨t.val % 11 * 512 + j.val, by omega⟩))
    (fun k => m (c.tc.loc main_arg3) (ix2 k ⟨t.val % 11 * 512 + j.val, by omega⟩))
    * m (c.tc.loc main_arg4) (ix2 ⟨t.val % 11 * 512 + j.val, by omega⟩ q)

/-- Equal rows, columns and weights give equal contributions of a unit. -/
theorem act_congr {h h' g g' u u' : Fin 2048 → EReal} {w w' : EReal} (hh : ∀ k, h k = h' k) (hg : ∀ k, g k = g' k)
    (hu : ∀ k, u k = u' k) (hw : w = w') : actAt h g u * w = actAt h' g' u' * w' := by
  rw [funext hh, funext hg, funext hu, hw]

/-- The body's arithmetic at a point over what the scratch and the output held. -/
theorem pay3_part (t : Fin cfg0.N) (h : FVec Ideal S512x2048 .bf16) (acc : FVec Ideal S512x2048 .f32)
    (r : Fin 512) (q : Fin 2048) (hh : ∀ k, h (ix2 r k) = hid m c t r k) :
    k0_pay3 (F := Ideal) h (iblk m c 2 t) (iblk m c 3 t) acc (iblk m c 4 t) (ix2 r q)
      = acc (ix2 r q) + part m c t r q :=
  (pay3_at _ _ _ _ _ _).trans (congrArg (acc (ix2 r q) + ·) (Finset.sum_congr rfl fun j _ =>
    act_congr hh (fun k => blk2 m c t k j) (fun k => blk3 m c t k j) (blk4 m c t j q)))

/-- What a point adds to an element: its units' contributions and, at the first point of a run, the input itself. -/
def step (t : Fin cfg0.N) (r : Fin 512) (q : Fin 2048) : EReal :=
  (if t.val % 11 = 0 then row (m (c.tc.loc main_arg0)) (rowOf t r) q else 0) + part m c t r q

/-- The cast of the input block is the block. -/
theorem pay1_at (x : FVec Ideal S512x2048 .f32) (y : S512x2048.Idx) : k0_pay1 (F := Ideal) x y = x y := by
  pointwise [k0_pay1]

/-- What the output block holds when it is written back: eleven points' contributions. -/
theorem out_at (t : Fin cfg0.N) (hf : (cfg0.win 5).flush t = true) (r : Fin 512) (q : Fin 2048) :
    (outsAt0 m c t.val t.isLt).1 (ix2 r q) = 0 + ∑ s : Fin 11,
      step m c ⟨11 * (t.val / 11) + s.val, Pipeline.run_point_lt_of_flush t ((flush0_5 t).mp hf) s⟩ r q := by
  refine Pipeline.eq_sum_fin_of_reset_step_apply_of_flush (fun n h (i : Fin 512 × Fin 2048) => (outsAt0 m c n h).1 (ix2 i.1 i.2))
    11 (fun _ => (0 : EReal)) (fun t i => step m c t i.1 i.2) (fun t h i => ?_) (fun t h i => ?_) t ((flush0_5 t).mp hf) (r, q)
  · show (outsAt0 m c t.val t.isLt).1 (ix2 i.1 i.2) = _
    rw [outsAt0_A m c t h]
    frame_out
    refine (pay3_part m c t _ _ i.1 i.2 (scr_reset m c t i.1)).trans ?_
    rw [step, if_pos h, zero_add]
    exact congrArg (· + _) ((pay1_at _ _).trans (blk0 m c t i.1 i.2))
  · show (outsAt0 m c t.val t.isLt).1 (ix2 i.1 i.2) = _
    rw [outsAt0_B m c t h]
    frame_out
    refine (pay3_part m c t _ _ i.1 i.2 fun k => ?_).trans ?_
    · refine (congrFun (read_unread_whole _ _ _) _).trans ?_
      exact (scr m c (t.val - 1) _ i.1 k).trans (hid_prev m c t h _ i.1 k)
    · rw [step, if_neg h, zero_add]

/-- The steps of one run add up to the input plus all 5632 units' contributions. -/
theorem sum_steps (t : Fin cfg0.N) (hN : ∀ s : Fin 11, 11 * (t.val / 11) + s.val < cfg0.N) (r : Fin 512) (q : Fin 2048) :
    (0 : EReal) + ∑ s : Fin 11, step m c ⟨11 * (t.val / 11) + s.val, hN s⟩ r q
      = row (m (c.tc.loc main_arg0)) (rowOf t r) q + ∑ j : Fin 5632, actAt (hid m c t r)
          (fun k => m (c.tc.loc main_arg2) (ix2 k j)) (fun k => m (c.tc.loc main_arg3) (ix2 k j))
          * m (c.tc.loc main_arg4) (ix2 j q) := by
  have e (s : Fin 11) : (11 * (t.val / 11) + s.val) / 11 = t.val / 11 := by omega
  have e' (s : Fin 11) : (11 * (t.val / 11) + s.val) % 11 = s.val := by omega
  have er (s : Fin 11) (h) : rowOf ⟨11 * (t.val / 11) + s.val, h⟩ r = rowOf t r :=
    Fin.ext (congrArg (512 * · + r.val) (e s))
  rw [zero_add]
  unfold step
  rw [Finset.sum_add_distrib]
  refine congrArg₂ (· + ·) ?_ ?_
  · refine (Finset.sum_eq_single (0 : Fin 11) (fun s _ hs => ?_) fun h => absurd (Finset.mem_univ _) h).trans ?_
    · exact if_neg fun h => hs (Fin.ext ((e' s).symm.trans h))
    · exact (if_pos (e' 0)).trans (congrArg (fun i => row (m (c.tc.loc main_arg0)) i q) (er 0 _))
  · unfold part
    refine Fin.sum_mul_add_congr fun s j hl => ?_
    have ej (h) : (⟨(11 * (t.val / 11) + s.val) % 11 * 512 + j.val, h⟩ : Fin 5632) = ⟨s.val * 512 + j.val, hl⟩ :=
      Fin.ext (congrArg (· * 512 + j.val) (e' s))
    refine act_congr (fun k => ?_) (fun k => ?_) (fun k => ?_) ?_
    · exact congrArg (fun i => normAt (row (m (c.tc.loc main_arg0)) i) k (m (c.tc.loc main_arg1) (ix1 k))) (er s _)
    · exact congrArg (fun i => m (c.tc.loc main_arg2) (ix2 k i)) (ej _)
    · exact congrArg (fun i => m (c.tc.loc main_arg3) (ix2 k i)) (ej _)
    · exact congrArg (fun i => m (c.tc.loc main_arg4) (ix2 i q)) (ej _)

/-- The kernel's result at the extended reals is the reference's, element by element. -/
theorem algebraic : Cert.algebraic_FfnIdeal_FfnRefIdeal := by
  pair_intro
  · run_from Cert.FfnIdeal.Gen.run_main m g
  · run_from Cert.FfnRefIdeal.Value.run m' g'
    symm
    refine (Cert.FfnIdeal.Gen.dats m 0 c).arrAt_eq_of_covers 5 (refTerm (m (c.tc.loc main_arg0))
      (refNorm (m (c.tc.loc main_arg0)) (m (c.tc.loc main_arg1))) (m (c.tc.loc main_arg2)) (m (c.tc.loc main_arg3))
      (m (c.tc.loc main_arg4))) (by decide +kernel) fun t hf y => ?_
    blk_simp
    rw [after0_5]
    have hy : (((View.whole main_v5).slice (win0_5.rect t)).emb y) = ix2 (rowOf t (y 0)) (y 1) := by
      blk_ext [idx t]
    refine (congrArg _ (eq_ix2 (n0 := 512) (n1 := 2048) y)).trans ((out_at m c t hf (y 0) (y 1)).trans
      (Eq.trans ?_ ((congrArg _ hy).trans (ref_at _ _ _ _ _ _ _)).symm))
    exact sum_steps m c t _ (y 0) (y 1)

end Cert.Proof.FfnClaims

end
-- ==== Proof.Proj.lean ====
/- The claims about the input projection: its frames, and that at the extended reals it computes the
   reference's projection of the
   normalised rows, its query and key columns rotated. Hand-written, untrusted. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.ProjClaims

/-- The kernel leaves its arguments alone and its counters at zero, on words. -/
theorem frame_p : Cert.quiescent_Proj := fun m ρ _ => Cert.Proj.Gen.frame m ρ
/-- The same, of the kernel read at the extended reals. -/
theorem frame_pi : Cert.quiescent_ProjIdeal := fun m ρ _ => Cert.ProjIdeal.Gen.frame m ρ
/-- The reference leaves its arguments alone; it has no counter. -/
theorem frame_ri : Cert.quiescent_ProjRefIdeal := fun m ρ _ =>
  (θ_run Cert.ProjRefIdeal.defs _ _).mono (fun r h => ⟨fun c => (h c).2.2.2.2.2.2.2.2.2,
      Idealize.ShloMosaic.sem_eq_zero_of_no_sems (by decide) r.2⟩)
    (Cert.ProjRefIdeal.Value.run (F := Ideal) m ρ)
/-- Nothing was rewritten on the way to the extended reals. -/
theorem preserves : Cert.preserves_Proj_ProjIdeal := trivial

section Reference

open Cert.ProjRefIdeal Cert.ProjRefIdeal.Gen

/-- One element of a normalised row: `row k` over the root mean square of the row, times the gain. -/
def normAt (row : Fin 2048 → EReal) (k : Fin 2048) (g : EReal) : EReal :=
  row k * Ideal.rsqrt (Ideal.div (∑ j : Fin 2048, row j * row j) (Scalar.ofBits (F := Ideal) .f32 0x45000000#32)
    + Scalar.ofBits (F := Ideal) .f32 0x358637BD#32) * g

/-- The reference's projected rows as a function of its arguments. -/
def refZ (x : FVec Ideal S2x4096x2048 .f32) (g : FVec Ideal S2048 .f32) (w : FVec Ideal S2048x4608 .f32) :
    FVec Ideal S2x4096x4608 .f32 :=
  Host.dotGeneral dot_S2x4096x2048_S2048x4608_S2x4096x4608_2_0_01_1_n_n none
    (mulf (mulf x (broadcastInDim S2x4096x2048 ![0, 1, 2] bcast_S2x4096x1_S2x4096x2048_0_1_2
      (Host.rsqrt (addf (Host.divf (broadcastInDim S2x4096x1 ![0, 1] bcast_S2x4096_S2x4096x1_0_1
        (Host.reduceAdd (mulf x x) (constant S_ .f32 0x00000000#32) reducesTo_S2x4096x2048_S2x4096_d2 h_S_))
        (broadcastInDim S2x4096x1 ![] bcast_S_S2x4096x1 (constant S_ .f32 0x45000000#32)))
        (broadcastInDim S2x4096x1 ![] bcast_S_S2x4096x1 (constant S_ .f32 0x358637BD#32))))))
      (broadcastInDim S2x4096x2048 ![0, 1, 2] bcast_S1x1x2048_S2x4096x2048_0_1_2
        (broadcastInDim S1x1x2048 ![2] bcast_S2048_S1x1x2048_2 g))) w

/-- Row `r` of the input, the two leading axes read as one. -/
def row (x : FVec Ideal S2x4096x2048 .f32) (r : Fin 8192) (k : Fin 2048) : EReal :=
  shapeCast (α := EReal) ProjIdeal.S8192x2048 x ProjIdeal.Gen.shapeCasts_S2x4096x2048_S8192x2048 (ix2 r k)

/-- That row, in the argument's own indices. -/
theorem row_at (x : FVec Ideal S2x4096x2048 .f32) (r : Fin 8192) (k : Fin 2048) :
    row x r k = x (ix3 ⟨r.val / 4096, by omega⟩ ⟨r.val % 4096, by omega⟩ k) := by
  pointwise [row]

/-- One element of the projected rows. -/
def zAt (x : FVec Ideal S2x4096x2048 .f32) (g : FVec Ideal S2048 .f32) (w : FVec Ideal S2048x4608 .f32) (r : Fin 8192)
    (j : Fin 4608) : EReal :=
  ∑ k : Fin 2048, normAt (row x r) k (g (ix1 k)) * w (ix2 k j)

/-- The reference's projected rows at an index. -/
theorem refZ_at (x : FVec Ideal S2x4096x2048 .f32) (g : FVec Ideal S2048 .f32) (w : FVec Ideal S2048x4608 .f32)
    (r : Fin 8192) (j : Fin 4608) :
    refZ x g w (ix3 ⟨r.val / 4096, by omega⟩ ⟨r.val % 4096, by omega⟩ j) = zAt x g w r j := by
  have e : row x r = fun k => x (ix3 ⟨r.val / 4096, by omega⟩ ⟨r.val % 4096, by omega⟩ k) := funext (row_at x r)
  unfold zAt
  rw [e]
  pointwise [refZ, normAt]

/-- 512 columns of the projected rows, the two leading axes read as one. -/
theorem plain_at (z : FVec Ideal S2x4096x4608 .f32) (o : ℕ) (h : S2x4096x4608.Slices ![0, 0, o] S2x4096x512)
    (ho : o + 512 ≤ 4608) (r : Fin 8192) (q : Fin 512) :
    shapeCast (α := EReal) S8192x512 (extractStridedSlice S2x4096x512 ![0, 0, o] z h) shapeCasts_S2x4096x512_S8192x512
        (ix2 r q)
      = z (ix3 ⟨r.val / 4096, by omega⟩ ⟨r.val % 4096, by omega⟩ ⟨o + q.val, by omega⟩) := by
  pointwise []

/-- The rotated columns with heads of 128: the reference's term. -/
def refA (o : ℕ) (h : S2x4096x4608.Slices ![0, 0, o] S2x4096x512) (z : FVec Ideal S2x4096x4608 .f32) (co si : FVec Ideal S4096x64 .f32) : FVec Ideal S8192x512 .f32 :=
  let z4 : FVec Ideal S2x4096x4x128 .f32 := shapeCast (α := EReal) S2x4096x4x128 (extractStridedSlice S2x4096x512 ![0, 0, o] z h) shapeCasts_S2x4096x512_S2x4096x4x128
  let z1 := extractStridedSlice S2x4096x4x64 ![0, 0, 0, 0] z4 slices_S2x4096x4x128_S2x4096x4x64_0_0_0_0
  let z2 := extractStridedSlice S2x4096x4x64 ![0, 0, 0, 64] z4 slices_S2x4096x4x128_S2x4096x4x64_0_0_0_64
  let tab := fun u : FVec Ideal S4096x64 .f32 => broadcastInDim S2x4096x4x64 ![0, 1, 2, 3] bcast_S1x4096x1x64_S2x4096x4x64_0_1_2_3
    (broadcastInDim S1x4096x1x64 ![1, 2, 3] bcast_S4096x1x64_S1x4096x1x64_1_2_3
      (broadcastInDim S4096x1x64 ![0, 2] bcast_S4096x64_S4096x1x64_0_2 u))
  shapeCast (α := EReal) S8192x512 (concatenate S2x4096x4x128 3 [⟨S2x4096x4x64, subf (mulf z1 (tab co)) (mulf z2 (tab si))⟩,
    ⟨S2x4096x4x64, addf (mulf z2 (tab co)) (mulf z1 (tab si))⟩] concatenates_S2x4096x4x64_S2x4096x4x64_S2x4096x4x128_d3)
    shapeCasts_S2x4096x4x128_S8192x512

/-- One element of a row of 512 columns rotated in heads of 128: the first half of a head against its second. -/
def rotA (z : Fin 512 → EReal) (co si : Fin 64 → EReal) (q : Fin 512) : EReal :=
  if h : q.val % 128 < 64 then
    z q * co ⟨q.val % 128, h⟩ - z ⟨q.val + 64, by omega⟩ * si ⟨q.val % 128, h⟩
  else z q * co ⟨q.val % 128 - 64, by omega⟩ + z ⟨q.val - 64, by omega⟩ * si ⟨q.val % 128 - 64, by omega⟩

/-- The same in heads of 64. -/
def rotB (z : Fin 512 → EReal) (co si : Fin 32 → EReal) (q : Fin 512) : EReal :=
  if h : q.val % 64 < 32 then
    z q * co ⟨q.val % 64, h⟩ - z ⟨q.val + 32, by omega⟩ * si ⟨q.val % 64, h⟩
  else z q * co ⟨q.val % 64 - 32, by omega⟩ + z ⟨q.val - 32, by omega⟩ * si ⟨q.val % 64 - 32, by omega⟩

/-- The reference's rotation in heads of 128, at an index. -/
theorem refA_at (o : ℕ) (h : S2x4096x4608.Slices ![0, 0, o] S2x4096x512) (ho : o + 512 ≤ 4608)
    (z : FVec Ideal S2x4096x4608 .f32) (co si : FVec Ideal S4096x64 .f32) (r : Fin 8192) (q : Fin 512) :
    refA o h z co si (ix2 r q)
      = rotA (fun q => z (ix3 ⟨r.val / 4096, by omega⟩ ⟨r.val % 4096, by omega⟩ ⟨o + q.val, by omega⟩))
          (fun l => co (ix2 ⟨r.val % 4096, by omega⟩ l)) (fun l => si (ix2 ⟨r.val % 4096, by omega⟩ l)) q := by
  pointwise [refA, rotA]
  split_ifs with hq
  · have e : q.val / 128 * 128 + (64 + q.val % 128) = q.val + 64 := by omega
    simp only [e]
  all_goals
    have e : q.val / 128 * 128 + (64 + (q.val % 128 - 64)) = q.val := by omega
    have e' : q.val / 128 * 128 + (q.val % 128 - 64) = q.val - 64 := by omega
    simp only [e, e']

/-- The rotated columns with heads of 64: the reference's term. -/
def refB (o : ℕ) (h : S2x4096x4608.Slices ![0, 0, o] S2x4096x512) (z : FVec Ideal S2x4096x4608 .f32) (co si : FVec Ideal S4096x32 .f32) : FVec Ideal S8192x512 .f32 :=
  let z4 : FVec Ideal S2x4096x8x64 .f32 := shapeCast (α := EReal) S2x4096x8x64 (extractStridedSlice S2x4096x512 ![0, 0, o] z h) shapeCasts_S2x4096x512_S2x4096x8x64
  let z1 := extractStridedSlice S2x4096x8x32 ![0, 0, 0, 0] z4 slices_S2x4096x8x64_S2x4096x8x32_0_0_0_0
  let z2 := extractStridedSlice S2x4096x8x32 ![0, 0, 0, 32] z4 slices_S2x4096x8x64_S2x4096x8x32_0_0_0_32
  let tab := fun u : FVec Ideal S4096x32 .f32 => broadcastInDim S2x4096x8x32 ![0, 1, 2, 3] bcast_S1x4096x1x32_S2x4096x8x32_0_1_2_3
    (broadcastInDim S1x4096x1x32 ![1, 2, 3] bcast_S4096x1x32_S1x4096x1x32_1_2_3
      (broadcastInDim S4096x1x32 ![0, 2] bcast_S4096x32_S4096x1x32_0_2 u))
  shapeCast (α := EReal) S8192x512 (concatenate S2x4096x8x64 3 [⟨S2x4096x8x32, subf (mulf z1 (tab co)) (mulf z2 (tab si))⟩,
    ⟨S2x4096x8x32, addf (mulf z2 (tab co)) (mulf z1 (tab si))⟩] concatenates_S2x4096x8x32_S2x4096x8x32_S2x4096x8x64_d3)
    shapeCasts_S2x4096x8x64_S8192x512

/-- The reference's rotation in heads of 64, at an index. -/
theorem refB_at (o : ℕ) (h : S2x4096x4608.Slices ![0, 0, o] S2x4096x512) (ho : o + 512 ≤ 4608)
    (z : FVec Ideal S2x4096x4608 .f32) (co si : FVec Ideal S4096x32 .f32) (r : Fin 8192) (q : Fin 512) :
    refB o h z co si (ix2 r q)
      = rotB (fun q => z (ix3 ⟨r.val / 4096, by omega⟩ ⟨r.val % 4096, by omega⟩ ⟨o + q.val, by omega⟩))
          (fun l => co (ix2 ⟨r.val % 4096, by omega⟩ l)) (fun l => si (ix2 ⟨r.val % 4096, by omega⟩ l)) q := by
  pointwise [refB, rotB]
  split_ifs with hq
  · have e : q.val / 64 * 64 + (32 + q.val % 64) = q.val + 32 := by omega
    simp only [e]
  all_goals
    have e : q.val / 64 * 64 + (32 + (q.val % 64 - 32)) = q.val := by omega
    have e' : q.val / 64 * 64 + (q.val % 64 - 32) = q.val - 32 := by omega
    simp only [e, e']

end Reference

open Cert.ProjIdeal Cert.ProjIdeal.Gen
open Cert.ProjRefIdeal (S2x4096x2048)

section Kernel

variable (m : (ℓ : Loc nD τ sig) → Buf (Elt Ideal) ℓ) (c : Dev nD)

/-- Each window's block at each point of the grid. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![t.val % 8, 0]
    ∧ win0_6.index t = ![t.val % 8, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] :=
  (by decide +kernel : ∀ t : Fin grid0.N, _)

/-- The grid has sixteen points. -/
theorem N16 : cfg0.N = 16 := N_0

/-- The array row that a point's block row is. -/
def rowOf (t : Fin cfg0.N) (r : Fin 512) : Fin 8192 := ⟨512 * t.val + r.val, by have := t.isLt; have := N16; omega⟩

/-- The angles of the heads of 128: time times frequency. -/
def angA : FVec Ideal S4096x64 .f32 :=
  mulf
    (broadcastInDim S4096x64 ![0, 1] bcast_S4096x1_S4096x64_0_1
      (broadcastInDim S4096x1 ![0] bcast_S4096_S4096x1_0 (sitofp FTy.f32 (iotaInDim S4096 32 0))))
    (broadcastInDim S4096x64 ![0, 1] bcast_S1x64_S4096x64_0_1
      (broadcastInDim S1x64 ![1] bcast_S64_S1x64_1
        (Host.powf (broadcastInDim S64 ![] bcast_S_S64 (constant S_ FTy.f32 1176256512#32))
          (Host.divf
            (mulf (Host.negf (sitofp FTy.f32 (iotaInDim S64 32 0)))
              (broadcastInDim S64 ![] bcast_S_S64 (constant S_ FTy.f32 1073741824#32)))
            (broadcastInDim S64 ![] bcast_S_S64 (constant S_ FTy.f32 1124073472#32))))))

/-- The angles of the heads of 64. -/
def angB : FVec Ideal S4096x32 .f32 :=
  mulf
    (broadcastInDim S4096x32 ![0, 1] bcast_S4096x1_S4096x32_0_1
      (broadcastInDim S4096x1 ![0] bcast_S4096_S4096x1_0 (sitofp FTy.f32 (iotaInDim S4096 32 0))))
    (broadcastInDim S4096x32 ![0, 1] bcast_S1x32_S4096x32_0_1
      (broadcastInDim S1x32 ![1] bcast_S32_S1x32_1
        (Host.powf (broadcastInDim S32 ![] bcast_S_S32 (constant S_ FTy.f32 1176256512#32))
          (Host.divf
            (mulf (Host.negf (sitofp FTy.f32 (iotaInDim S32 32 0)))
              (broadcastInDim S32 ![] bcast_S_S32 (constant S_ FTy.f32 1073741824#32)))
            (broadcastInDim S32 ![] bcast_S_S32 (constant S_ FTy.f32 1115684864#32))))))

/-- A table of the heads of 128: `a` beside `b`. -/
def tileA (a b : FVec Ideal S4096x64 .f32) : FVec Ideal S4096x128 .f32 :=
  shapeCast (α := EReal) S4096x128 (broadcastInDim S1x4096x1x128 ![0, 1, 2, 3] bcast_S1x4096x1x128_S1x4096x1x128_0_1_2_3
    (shapeCast (α := EReal) S1x4096x1x128 (concatenate S4096x128 1 [⟨S4096x64, a⟩, ⟨S4096x64, b⟩]
      concatenates_S4096x64_S4096x64_S4096x128_d1) shapeCasts_S4096x128_S1x4096x1x128)) shapeCasts_S1x4096x1x128_S4096x128

/-- A table of the heads of 64: `a` beside `b`, twice. -/
def tileB (a b : FVec Ideal S4096x32 .f32) : FVec Ideal S4096x128 .f32 :=
  shapeCast (α := EReal) S4096x128 (broadcastInDim S1x4096x2x64 ![0, 1, 2, 3] bcast_S1x4096x1x64_S1x4096x2x64_0_1_2_3
    (shapeCast (α := EReal) S1x4096x1x64 (concatenate S4096x64 1 [⟨S4096x32, a⟩, ⟨S4096x32, b⟩]
      concatenates_S4096x32_S4096x32_S4096x64_d1) shapeCasts_S4096x64_S1x4096x1x64)) shapeCasts_S1x4096x2x64_S4096x128

/-- The first table's elements. -/
theorem tileA_at (a b : FVec Ideal S4096x64 .f32) (s : Fin 4096) (l : Fin 128) :
    tileA a b (ix2 s l) = if h : l.val < 64 then a (ix2 s ⟨l.val, h⟩) else b (ix2 s ⟨l.val - 64, by omega⟩) := by
  pointwise [tileA]

/-- The second table's elements. -/
theorem tileB_at (a b : FVec Ideal S4096x32 .f32) (s : Fin 4096) (l : Fin 128) :
    tileB a b (ix2 s l)
      = if h : l.val % 64 < 32 then a (ix2 s ⟨l.val % 64, h⟩) else b (ix2 s ⟨l.val % 64 - 32, by omega⟩) := by
  pointwise [tileB]

/-- The time of a point's block row. -/
def timeOf (t : Fin cfg0.N) (r : Fin 512) : Fin 4096 := ⟨512 * (t.val % 8) + r.val, by omega⟩

/-- A block of the table of the heads of 128: cosines. -/
theorem tab3 (t : Fin cfg0.N) (r : Fin 512) (l : Fin 128) :
    @Eq EReal (iblk m c 3 t (ix2 r l)) (tileA (Host.cos angA) (Host.cos angA) (ix2 (timeOf t r) l)) := by
  show V m c main_v20 _ = _
  entry_read
  show tileA (Host.cos angA) (Host.cos angA) _ = _
  refine congrArg (tileA (Host.cos angA) (Host.cos angA)) ?_
  blk_ext [timeOf, idx t]

/-- A block of the table of the heads of 128: sines, the first half negated. -/
theorem tab4 (t : Fin cfg0.N) (r : Fin 512) (l : Fin 128) :
    @Eq EReal (iblk m c 4 t (ix2 r l)) (tileA (Host.negf (Host.sin angA)) (Host.sin angA) (ix2 (timeOf t r) l)) := by
  show V m c main_v25 _ = _
  entry_read
  show tileA (Host.negf (Host.sin angA)) (Host.sin angA) _ = _
  refine congrArg (tileA (Host.negf (Host.sin angA)) (Host.sin angA)) ?_
  blk_ext [timeOf, idx t]

/-- A block of the table of the heads of 64: cosines. -/
theorem tab5 (t : Fin cfg0.N) (r : Fin 512) (l : Fin 128) :
    @Eq EReal (iblk m c 5 t (ix2 r l)) (tileB (Host.cos angB) (Host.cos angB) (ix2 (timeOf t r) l)) := by
  show V m c main_v45 _ = _
  entry_read
  show tileB (Host.cos angB) (Host.cos angB) _ = _
  refine congrArg (tileB (Host.cos angB) (Host.cos angB)) ?_
  blk_ext [timeOf, idx t]

/-- A block of the table of the heads of 64: sines, the first half of each head negated. -/
theorem tab6 (t : Fin cfg0.N) (r : Fin 512) (l : Fin 128) :
    @Eq EReal (iblk m c 6 t (ix2 r l)) (tileB (Host.negf (Host.sin angB)) (Host.sin angB) (ix2 (timeOf t r) l)) := by
  show V m c main_v50 _ = _
  entry_read
  show tileB (Host.negf (Host.sin angB)) (Host.sin angB) _ = _
  refine congrArg (tileB (Host.negf (Host.sin angB)) (Host.sin angB)) ?_
  blk_ext [timeOf, idx t]

/-- The kernel's rotation of one tile of 128 lanes as one head, at an index. -/
theorem pay12_at (co si z : FVec Ideal S512x128 .f32) (r : Fin 512) (l : Fin 128) :
    k0_pay12 (F := Ideal) co si z (ix2 r l)
      = z (ix2 r l) * co (ix2 r l) + z (ix2 r ⟨(l.val + 128 - 64) % 128, by omega⟩) * si (ix2 r l) := by
  pointwise [k0_pay12]

/-- The lane that a lane is rotated with: 32 further in the first half of a head of 64, 32 before in the second. -/
def lane (l : Fin 128) : Fin 128 :=
  if l.val % 64 < 32 then ⟨(l.val + 128 - 96) % 128, by omega⟩ else ⟨(l.val + 128 - 32) % 128, by omega⟩

/-- The kernel's test of the half, a remainder by 64 compared with 32. -/
def half (l : BitVec 32) : BitVec 1 :=
  let n := Scalar.select (Scalar.cmpi CmpIPredicate.eq 64#32 0#32) 1#32 64#32
  let q := IntOp.remsi ArithUnit.vector l n
  IntOp.cmpi CmpIPredicate.slt
    (Scalar.select (IntOp.andi (IntOp.xori (IntOp.cmpi CmpIPredicate.slt q 0#32) (Scalar.cmpi CmpIPredicate.slt n 0#32))
      (IntOp.cmpi CmpIPredicate.ne q 0#32)) (IntOp.addi q n) q) 32#32

/-- What the test says of each lane. -/
theorem half_at : ∀ l : Fin 128, half (BitVec.ofNat 32 l.val) = if l.val % 64 < 32 then 1#1 else 0#1 := by
  decide +kernel

/-- The kernel's rotation of one tile of 128 lanes as two heads, at an index. -/
theorem pay29_at (co si z : FVec Ideal S512x128 .f32) (r : Fin 512) (l : Fin 128) :
    k0_pay29 (F := Ideal) co si z k0_pay26 k0_pay27 k0_pay28 (ix2 r l)
      = z (ix2 r l) * co (ix2 r l) + z (ix2 r (lane l)) * si (ix2 r l) := by
  pointwise [k0_pay29, k0_pay26, k0_pay27, k0_pay28]
  show _ + Scalar.select (half (BitVec.ofNat 32 l.val)) _ _ * _ = _
  rw [half_at, lane]
  split_ifs <;> rfl

/-- An index of a tile of 128 lanes among 512. -/
theorem tile_idx (o : ℕ) (h) (r : Fin 512) (l : Fin 128) (ho : o + 128 ≤ 512) :
    (Rect.unit (s := S512x512) ![0, o] S512x128.size h).emb (ix2 r l) = ix2 r ⟨o + l.val, by omega⟩ := by
  funext a; fin_cases a
  · exact Fin.ext (by show 0 + 1 * r.val = r.val; omega)
  · exact Fin.ext (by show o + 1 * l.val = o + l.val; omega)

/-- A tile of 128 lanes, at an index. -/
theorem slice_at (o : ℕ) (h : S512x512.Slices ![0, o] S512x128) (z : FVec Ideal S512x512 .f32) (r : Fin 512) (l : Fin 128)
    (ho : o + 128 ≤ 512) : extractStridedSlice S512x128 ![0, o] z h (ix2 r l) = z (ix2 r ⟨o + l.val, by omega⟩) := by
  pointwise []

/-- An element of the rotated columns, as one function of the index in the block: `p` is the partner's lane. -/
def tileAt (p : Fin 128 → Fin 128) (z : FVec Ideal S512x512 .f32) (co si : FVec Ideal S512x128 .f32) (r : Fin 512)
    (q : Fin 512) : EReal :=
  z (ix2 r q) * co (ix2 r ⟨q.val % 128, by omega⟩)
    + z (ix2 r ⟨q.val / 128 * 128 + (p ⟨q.val % 128, by omega⟩).val, by omega⟩) * si (ix2 r ⟨q.val % 128, by omega⟩)

/-- A stored tile agrees with that function. -/
theorem piece (p : Fin 128 → Fin 128) (f : FVec Ideal S512x128 .f32 → FVec Ideal S512x128 .f32) (z : FVec Ideal S512x512 .f32)
    (co si : FVec Ideal S512x128 .f32)
    (hf : ∀ u r l, f u (ix2 r l) = u (ix2 r l) * co (ix2 r l) + u (ix2 r (p l)) * si (ix2 r l))
    (o : ℕ) (h : S512x512.Slices ![0, o] S512x128) (hi) (ho : o + 128 ≤ 512) (hd : o % 128 = 0) (x : S512x128.Idx) :
    f (extractStridedSlice S512x128 ![0, o] z h) x
      = (fun y : S512x512.Idx => tileAt p z co si (y 0) (y 1)) ((Rect.unit (s := S512x512) ![0, o] S512x128.size hi).emb x) := by
  obtain ⟨r, l, rfl⟩ : ∃ (r : Fin 512) (l : Fin 128), x = ix2 r l := ⟨x 0, x 1, eq_ix2 (n0 := 512) (n1 := 128) x⟩
  rw [tile_idx o hi r l ho, hf, slice_at o h z r l ho, slice_at o h z r (p l) ho]
  show _ = tileAt p z co si r ⟨o + l.val, _⟩
  have e : (⟨(o + l.val) % 128, by omega⟩ : Fin 128) = l := Fin.ext (by show (o + l.val) % 128 = l.val; omega)
  unfold tileAt
  simp only [e]
  congr 4
  exact Fin.ext (by show o + (p l).val = (o + l.val) / 128 * 128 + (p l).val; omega)

/-- Four stored tiles that agree with that function leave it. -/
theorem four (p : Fin 128 → Fin 128) (f : FVec Ideal S512x128 .f32 → FVec Ideal S512x128 .f32) (z : FVec Ideal S512x512 .f32)
    (co si : FVec Ideal S512x128 .f32)
    (hf : ∀ u r l, f u (ix2 r l) = u (ix2 r l) * co (ix2 r l) + u (ix2 r (p l)) * si (ix2 r l)) (r q : Fin 512) :
    View.canon (Val := Elt Ideal) (e := .f32) [⟨r0_7, f (extractStridedSlice S512x128 ![0, 384] z slices_S512x512_o0_384_S512x128)⟩,
        ⟨r0_6, f (extractStridedSlice S512x128 ![0, 256] z slices_S512x512_o0_256_S512x128)⟩,
        ⟨r0_5, f (extractStridedSlice S512x128 ![0, 128] z slices_S512x512_o0_128_S512x128)⟩,
        ⟨r0_4, f (extractStridedSlice S512x128 ![0, 0] z slices_S512x512_o0_0_S512x128)⟩] (ix2 r q)
      = tileAt p z co si r q := by
  refine View.canon_apply_of_pieces (Val := Elt Ideal) (e := .f32) (fun y : S512x512.Idx => tileAt p z co si (y 0) (y 1)) _ ?_ _ (cover0_7 (F := Ideal) _ _ _ _ _)
  intro pc hpc
  simp only [List.mem_cons, List.not_mem_nil, or_false] at hpc
  rcases hpc with rfl | rfl | rfl | rfl
  · exact piece p f z co si hf 384 slices_S512x512_o0_384_S512x128 inb_S512x512_S512x128_0_384 (by omega) rfl
  · exact piece p f z co si hf 256 slices_S512x512_o0_256_S512x128 inb_S512x512_S512x128_0_256 (by omega) rfl
  · exact piece p f z co si hf 128 slices_S512x512_o0_128_S512x128 inb_S512x512_S512x128_0_128 (by omega) rfl
  · exact piece p f z co si hf 0 slices_S512x512_o0_0_S512x128 inb_S512x512_S512x128_0_0 (by omega) rfl

/-- With the tables' elements in place this is the rotation in heads of 128. -/
theorem rotA_eq (z : FVec Ideal S512x512 .f32) (co si : FVec Ideal S512x128 .f32) (r q : Fin 512) (s : Fin 4096)
    (hco : ∀ l, co (ix2 r l) = tileA (Host.cos angA) (Host.cos angA) (ix2 s l))
    (hsi : ∀ l, si (ix2 r l) = tileA (Host.negf (Host.sin angA)) (Host.sin angA) (ix2 s l)) :
    tileAt (fun l => ⟨(l.val + 128 - 64) % 128, by omega⟩) z co si r q
      = rotA (fun q => z (ix2 r q)) (fun l => Host.cos angA (ix2 s l)) (fun l => Host.sin angA (ix2 s l)) q := by
  unfold tileAt rotA
  rw [hco, hsi, tileA_at, tileA_at]
  by_cases h : q.val % 128 < 64
  · have e : (⟨q.val / 128 * 128 + (q.val % 128 + 128 - 64) % 128, by omega⟩ : Fin 512) = ⟨q.val + 64, by omega⟩ :=
      Fin.ext (by show q.val / 128 * 128 + (q.val % 128 + 128 - 64) % 128 = q.val + 64; omega)
    simp only [dif_pos h, e]
    show _ + _ * -(Host.sin angA _) = _
    rw [mul_neg, sub_eq_add_neg]
  · have e : (⟨q.val / 128 * 128 + (q.val % 128 + 128 - 64) % 128, by omega⟩ : Fin 512) = ⟨q.val - 64, by omega⟩ :=
      Fin.ext (by show q.val / 128 * 128 + (q.val % 128 + 128 - 64) % 128 = q.val - 64; omega)
    simp only [dif_neg h, e]

/-- With the tables' elements in place this is the rotation in heads of 64. -/
theorem rotB_eq (z : FVec Ideal S512x512 .f32) (co si : FVec Ideal S512x128 .f32) (r q : Fin 512) (s : Fin 4096)
    (hco : ∀ l, co (ix2 r l) = tileB (Host.cos angB) (Host.cos angB) (ix2 s l))
    (hsi : ∀ l, si (ix2 r l) = tileB (Host.negf (Host.sin angB)) (Host.sin angB) (ix2 s l)) :
    tileAt lane z co si r q
      = rotB (fun q => z (ix2 r q)) (fun l => Host.cos angB (ix2 s l)) (fun l => Host.sin angB (ix2 s l)) q := by
  unfold tileAt rotB
  rw [hco, hsi, tileB_at, tileB_at]
  have hm : q.val % 128 % 64 = q.val % 64 := by omega
  simp only [lane, hm]
  by_cases h : q.val % 64 < 32
  · have e : (⟨q.val / 128 * 128 + (q.val % 128 + 128 - 96) % 128, by omega⟩ : Fin 512) = ⟨q.val + 32, by omega⟩ :=
      Fin.ext (by show q.val / 128 * 128 + (q.val % 128 + 128 - 96) % 128 = q.val + 32; omega)
    simp only [dif_pos h, if_pos h, e]
    show _ + _ * -(Host.sin angB _) = _
    rw [mul_neg, sub_eq_add_neg]
  · have e : (⟨q.val / 128 * 128 + (q.val % 128 + 128 - 32) % 128, by omega⟩ : Fin 512) = ⟨q.val - 32, by omega⟩ :=
      Fin.ext (by show q.val / 128 * 128 + (q.val % 128 + 128 - 32) % 128 = q.val - 32; omega)
    simp only [dif_neg h, if_neg h, e]

/-- The kernel's projected rows from its blocks, at an index. -/
theorem pay_z (x : FVec Ideal S512x2048 .f32) (g : FVec Ideal S1x2048 .f32) (w : FVec Ideal S2048x512 .bf16) (r q : Fin 512) :
    k0_pay14 (F := Ideal) (k0_pay5 x g) w (ix2 r q)
      = ∑ k : Fin 2048, normAt (fun k => x (ix2 r k)) k (g (ix2 0 k)) * w (ix2 k q) := by
  pointwise [k0_pay14, k0_pay5, normAt]

/-- An index of 512 of the weights' columns. -/
theorem cols_idx (o : ℕ) (h) (k : Fin 2048) (q : Fin 512) (ho : o + 512 ≤ 4608) :
    (Rect.unit (s := S2048x4608) ![0, o] S2048x512.size h).idx (ix2 k q) = ix2 k ⟨o + q.val, by omega⟩ := by
  funext a; fin_cases a
  · exact Fin.ext (by show 0 + 1 * k.val = k.val; omega)
  · exact Fin.ext (by show o + 1 * q.val = o + q.val; omega)

/-- At a point of the grid: 512 columns of the projected rows. -/
theorem z_at (t : Fin cfg0.N) (o : ℕ) (h) (ho : o + 512 ≤ 4608) (r q : Fin 512) :
    k0_pay14 (F := Ideal) (k0_pay5 (iblk m c 0 t) (iblk m c 1 t))
        (View.ld (iblk m c 2 t) (Rect.unit (s := S2048x4608) ![0, o] S2048x512.size h)) (ix2 r q)
      = zAt (m (c.tc.loc main_arg0)) (m (c.tc.loc main_arg1)) (m (c.tc.loc main_arg2)) (rowOf t r) ⟨o + q.val, by omega⟩ := by
  refine (pay_z _ _ _ r q).trans (Finset.sum_congr rfl fun k _ => congrArg₂ (· * ·) ?_ ?_)
  · refine congrArg₂ (fun u v => normAt u k v) (funext fun k => ?_) ?_
    · show _ = shapeCast (α := EReal) _ _ _ _
      blk_point [iblk, V, rowOf, idx t]
    · blk_point [iblk, V, rowOf, idx t]
  · refine (congrArg (iblk m c 2 t) (cols_idx o h k q ho)).trans ?_
    blk_point [iblk, V, rowOf, idx t]

/-- 512 columns of the projected rows: the reference's term. -/
def refP (o : ℕ) (h : ProjRefIdeal.S2x4096x4608.Slices ![0, 0, o] ProjRefIdeal.S2x4096x512)
    (z : FVec Ideal ProjRefIdeal.S2x4096x4608 .f32) : FVec Ideal ProjRefIdeal.S8192x512 .f32 :=
  shapeCast (α := EReal) ProjRefIdeal.S8192x512 (extractStridedSlice ProjRefIdeal.S2x4096x512 ![0, 0, o] z h)
    ProjRefIdeal.Gen.shapeCasts_S2x4096x512_S8192x512

/-- The reference's projected rows, of the arguments the kernel is called with. -/
def Z : FVec Ideal ProjRefIdeal.S2x4096x4608 .f32 :=
  refZ (m (c.tc.loc main_arg0)) (m (c.tc.loc main_arg1)) (m (c.tc.loc main_arg2))

/-- A block of projected columns is the reference's. -/
theorem plain_eq (t : Fin cfg0.N) (o : ℕ) (h) (hs) (ho : o + 512 ≤ 4608) (r q : Fin 512) :
    k0_pay14 (F := Ideal) (k0_pay5 (iblk m c 0 t) (iblk m c 1 t))
        (View.ld (iblk m c 2 t) (Rect.unit (s := S2048x4608) ![0, o] S2048x512.size h)) (ix2 r q)
      = refP o hs (Z m c) (ix2 (rowOf t r) q) := by
  rw [refP, plain_at _ _ _ ho, z_at m c t o h ho]
  exact (refZ_at _ _ _ _ _).symm

/-- A point's time is its row's. -/
theorem time_eq (t : Fin cfg0.N) (r : Fin 512) (h : (rowOf t r).val % 4096 < 4096) : (⟨(rowOf t r).val % 4096, h⟩ : Fin 4096) = timeOf t r :=
  Fin.ext (by show (512 * t.val + r.val) % 4096 = 512 * (t.val % 8) + r.val; have := t.isLt; have := N16; omega)

/-- A rotated block in heads of 128 is the reference's. -/
theorem rotatedA (t : Fin cfg0.N) (o : ℕ) (h) (hs) (ho : o + 512 ≤ 4608) (r q : Fin 512) :
    tileAt (fun l => ⟨(l.val + 128 - 64) % 128, by omega⟩) (k0_pay14 (F := Ideal) (k0_pay5 (iblk m c 0 t) (iblk m c 1 t))
        (View.ld (iblk m c 2 t) (Rect.unit (s := S2048x4608) ![0, o] S2048x512.size h))) (iblk m c 3 t) (iblk m c 4 t) r q
      = refA o hs (Z m c) (Host.cos angA) (Host.sin angA) (ix2 (rowOf t r) q) := by
  rw [rotA_eq _ _ _ r q (timeOf t r) (tab3 m c t r) (tab4 m c t r), refA_at _ _ ho]
  simp only [time_eq]
  refine congrArg (fun z => rotA z _ _ q) (funext fun q => ?_)
  rw [z_at m c t o h ho, ← time_eq t r (Nat.mod_lt _ (by decide))]
  exact (refZ_at _ _ _ _ _).symm

/-- A rotated block in heads of 64 is the reference's. -/
theorem rotatedB (t : Fin cfg0.N) (o : ℕ) (h) (hs) (ho : o + 512 ≤ 4608) (r q : Fin 512) :
    tileAt lane (k0_pay14 (F := Ideal) (k0_pay5 (iblk m c 0 t) (iblk m c 1 t))
        (View.ld (iblk m c 2 t) (Rect.unit (s := S2048x4608) ![0, o] S2048x512.size h))) (iblk m c 5 t) (iblk m c 6 t) r q
      = refB o hs (Z m c) (Host.cos angB) (Host.sin angB) (ix2 (rowOf t r) q) := by
  rw [rotB_eq _ _ _ r q (timeOf t r) (tab5 m c t r) (tab6 m c t r), refB_at _ _ ho]
  simp only [time_eq]
  refine congrArg (fun z => rotB z _ _ q) (funext fun q => ?_)
  rw [z_at m c t o h ho, ← time_eq t r (Nat.mod_lt _ (by decide))]
  exact (refZ_at _ _ _ _ _).symm

/-- A load of a whole buffer reads its contents. -/
theorem ld0 (x : Vec Ideal S512x2048 .f32) : View.ld (Val := Elt Ideal) x r0_0 = x :=
  View.ld_unit_zero (by funext a; fin_cases a <;> rfl) _ _
/-- The same of the gain. -/
theorem ld1 (x : Vec Ideal S1x2048 .f32) : View.ld (Val := Elt Ideal) x r0_1 = x :=
  View.ld_unit_zero (by funext a; fin_cases a <;> rfl) _ _
/-- The same of a table's block. -/
theorem ld3 (x : Vec Ideal S512x128 .f32) : View.ld (Val := Elt Ideal) x r0_3 = x :=
  View.ld_unit_zero (by funext a; fin_cases a <;> rfl) _ _
/-- A table's block cast to its own shape. -/
theorem cast_eq (x : Vec Ideal S512x128 .f32) : k0_pay7 (F := Ideal) x = x := by
  funext y
  obtain ⟨r, l, rfl⟩ : ∃ (r : Fin 512) (l : Fin 128), y = ix2 r l := ⟨y 0, y 1, eq_ix2 (n0 := 512) (n1 := 128) y⟩
  pointwise [k0_pay7]

/-- Result 9's block. -/
theorem block9 (x0 : Vec Ideal S512x2048 .f32) (x1 : Vec Ideal S1x2048 .f32) (x2 : Vec Ideal S2048x4608 .bf16)
    (x3 x4 x5 x6 : Vec Ideal S512x128 .f32) (r q : Fin 512) :
    out0_9 (F := Ideal) x0 x1 x2 x3 x4 x5 x6 (ix2 r q)
      = k0_pay14 (F := Ideal) (k0_pay5 x0 x1) (View.ld x2 r0_9) (ix2 r q) := by
  refine (congrFun (View.canon_unit_zero (S := S512x512) (Val := Elt Ideal) (e := .f32) (off := ![0, 0]) (by funext a; fin_cases a <;> rfl) _
    (k0_pay14 (F := Ideal) (k0_pay5 (View.ld x0 r0_0) (View.ld x1 r0_1)) (View.ld x2 r0_9))) (ix2 r q)).trans ?_
  rw [ld0, ld1]

/-- Result 9: columns 1024 to 1535 of the projected rows. -/
theorem out9 (hs) : (dats m 0 c).arrAt 9 (cfgs 0).N
      = (refP 1024 hs (Z m c)) := by
  refine (dats m 0 c).arrAt_eq_of_covers 9 (refP 1024 hs (Z m c)) (by decide +kernel) fun t _ y => ?_
  obtain ⟨r, q, rfl⟩ : ∃ (r q : Fin 512), y = ix2 r q := ⟨y 0, y 1, eq_ix2 (n0 := 512) (n1 := 512) y⟩
  blk_simp
  rw [after0_9]
  refine (block9 _ _ _ _ _ _ _ r q).trans ?_
  refine (plain_eq m c t 1024 _ hs (by omega) r q).trans (congrArg (refP 1024 hs (Z m c)) ?_)
  blk_ext [rowOf, idx t]

/-- Result 7's block, as one function of the index. -/
theorem block7 (x0 : Vec Ideal S512x2048 .f32) (x1 : Vec Ideal S1x2048 .f32) (x2 : Vec Ideal S2048x4608 .bf16)
    (x3 x4 x5 x6 : Vec Ideal S512x128 .f32) (r q : Fin 512) :
    out0_7 (F := Ideal) x0 x1 x2 x3 x4 x5 x6 (ix2 r q)
      = tileAt (fun l => ⟨(l.val + 128 - 64) % 128, by omega⟩) (k0_pay14 (F := Ideal) (k0_pay5 x0 x1) (View.ld x2 r0_2)) x3 x4 r q := by
  refine (four (fun l => ⟨(l.val + 128 - 64) % 128, by omega⟩) (k0_pay12 (k0_pay7 (View.ld x3 r0_3)) (k0_pay7 (View.ld x4 r0_3)))
    (k0_pay14 (F := Ideal) (k0_pay5 (View.ld x0 r0_0) (View.ld x1 r0_1)) (View.ld x2 r0_2)) _ _ (fun u r l => pay12_at _ _ u r l) r q).trans ?_
  rw [ld0, ld1, ld3, ld3, cast_eq, cast_eq]

/-- Result 7: columns 0 to 511 of the projected rows, rotated. -/
theorem out7 (hs) : (dats m 0 c).arrAt 7 (cfgs 0).N = (refA 0 hs (Z m c) (Host.cos angA) (Host.sin angA)) := by
  refine (dats m 0 c).arrAt_eq_of_covers 7 (refA 0 hs (Z m c) (Host.cos angA) (Host.sin angA)) (by decide +kernel) fun t _ y => ?_
  obtain ⟨r, q, rfl⟩ : ∃ (r q : Fin 512), y = ix2 r q := ⟨y 0, y 1, eq_ix2 (n0 := 512) (n1 := 512) y⟩
  blk_simp
  rw [after0_7]
  refine ((block7 _ _ _ _ _ _ _ r q).trans (rotatedA m c t 0 _ hs (by omega) r q)).trans (congrArg (refA 0 hs (Z m c) (Host.cos angA) (Host.sin angA)) ?_)
  blk_ext [rowOf, idx t]

/-- Result 10's block, as one function of the index. -/
theorem block10 (x0 : Vec Ideal S512x2048 .f32) (x1 : Vec Ideal S1x2048 .f32) (x2 : Vec Ideal S2048x4608 .bf16)
    (x3 x4 x5 x6 : Vec Ideal S512x128 .f32) (r q : Fin 512) :
    out0_10 (F := Ideal) x0 x1 x2 x3 x4 x5 x6 (ix2 r q)
      = tileAt lane (k0_pay14 (F := Ideal) (k0_pay5 x0 x1) (View.ld x2 r0_11)) x5 x6 r q := by
  refine (four lane (fun u => k0_pay29 (k0_pay7 (View.ld x5 r0_3)) (k0_pay7 (View.ld x6 r0_3)) u k0_pay26 k0_pay27 k0_pay28)
    (k0_pay14 (F := Ideal) (k0_pay5 (View.ld x0 r0_0) (View.ld x1 r0_1)) (View.ld x2 r0_11)) _ _ (fun u r l => pay29_at _ _ u r l) r q).trans ?_
  rw [ld0, ld1, ld3, ld3, cast_eq, cast_eq]

/-- Result 10: columns 1536 to 2047 of the projected rows, rotated. -/
theorem out10 (hs) : (dats m 0 c).arrAt 10 (cfgs 0).N = (refB 1536 hs (Z m c) (Host.cos angB) (Host.sin angB)) := by
  refine (dats m 0 c).arrAt_eq_of_covers 10 (refB 1536 hs (Z m c) (Host.cos angB) (Host.sin angB)) (by decide +kernel) fun t _ y => ?_
  obtain ⟨r, q, rfl⟩ : ∃ (r q : Fin 512), y = ix2 r q := ⟨y 0, y 1, eq_ix2 (n0 := 512) (n1 := 512) y⟩
  blk_simp
  rw [after0_10]
  refine ((block10 _ _ _ _ _ _ _ r q).trans (rotatedB m c t 1536 _ hs (by omega) r q)).trans (congrArg (refB 1536 hs (Z m c) (Host.cos angB) (Host.sin angB)) ?_)
  blk_ext [rowOf, idx t]

/-- Result 8's block, as one function of the index. -/
theorem block8 (x0 : Vec Ideal S512x2048 .f32) (x1 : Vec Ideal S1x2048 .f32) (x2 : Vec Ideal S2048x4608 .bf16)
    (x3 x4 x5 x6 : Vec Ideal S512x128 .f32) (r q : Fin 512) :
    out0_8 (F := Ideal) x0 x1 x2 x3 x4 x5 x6 (ix2 r q)
      = tileAt (fun l => ⟨(l.val + 128 - 64) % 128, by omega⟩) (k0_pay14 (F := Ideal) (k0_pay5 x0 x1) (View.ld x2 r0_8)) x3 x4 r q := by
  refine (four (fun l => ⟨(l.val + 128 - 64) % 128, by omega⟩) (k0_pay12 (k0_pay7 (View.ld x3 r0_3)) (k0_pay7 (View.ld x4 r0_3)))
    (k0_pay14 (F := Ideal) (k0_pay5 (View.ld x0 r0_0) (View.ld x1 r0_1)) (View.ld x2 r0_8)) _ _ (fun u r l => pay12_at _ _ u r l) r q).trans ?_
  rw [ld0, ld1, ld3, ld3, cast_eq, cast_eq]

/-- Result 8: columns 512 to 1023 of the projected rows, rotated. -/
theorem out8 (hs) : (dats m 0 c).arrAt 8 (cfgs 0).N = (refA 512 hs (Z m c) (Host.cos angA) (Host.sin angA)) := by
  refine (dats m 0 c).arrAt_eq_of_covers 8 (refA 512 hs (Z m c) (Host.cos angA) (Host.sin angA)) (by decide +kernel) fun t _ y => ?_
  obtain ⟨r, q, rfl⟩ : ∃ (r q : Fin 512), y = ix2 r q := ⟨y 0, y 1, eq_ix2 (n0 := 512) (n1 := 512) y⟩
  blk_simp
  rw [after0_8]
  refine ((block8 _ _ _ _ _ _ _ r q).trans (rotatedA m c t 512 _ hs (by omega) r q)).trans (congrArg (refA 512 hs (Z m c) (Host.cos angA) (Host.sin angA)) ?_)
  blk_ext [rowOf, idx t]

/-- Result 11's block, as one function of the index. -/
theorem block11 (x0 : Vec Ideal S512x2048 .f32) (x1 : Vec Ideal S1x2048 .f32) (x2 : Vec Ideal S2048x4608 .bf16)
    (x3 x4 x5 x6 : Vec Ideal S512x128 .f32) (r q : Fin 512) :
    out0_11 (F := Ideal) x0 x1 x2 x3 x4 x5 x6 (ix2 r q)
      = tileAt lane (k0_pay14 (F := Ideal) (k0_pay5 x0 x1) (View.ld x2 r0_12)) x5 x6 r q := by
  refine (four lane (fun u => k0_pay29 (k0_pay7 (View.ld x5 r0_3)) (k0_pay7 (View.ld x6 r0_3)) u k0_pay26 k0_pay27 k0_pay28)
    (k0_pay14 (F := Ideal) (k0_pay5 (View.ld x0 r0_0) (View.ld x1 r0_1)) (View.ld x2 r0_12)) _ _ (fun u r l => pay29_at _ _ u r l) r q).trans ?_
  rw [ld0, ld1, ld3, ld3, cast_eq, cast_eq]

/-- Result 11: columns 2048 to 2559 of the projected rows, rotated. -/
theorem out11 (hs) : (dats m 0 c).arrAt 11 (cfgs 0).N = (refB 2048 hs (Z m c) (Host.cos angB) (Host.sin angB)) := by
  refine (dats m 0 c).arrAt_eq_of_covers 11 (refB 2048 hs (Z m c) (Host.cos angB) (Host.sin angB)) (by decide +kernel) fun t _ y => ?_
  obtain ⟨r, q, rfl⟩ : ∃ (r q : Fin 512), y = ix2 r q := ⟨y 0, y 1, eq_ix2 (n0 := 512) (n1 := 512) y⟩
  blk_simp
  rw [after0_11]
  refine ((block11 _ _ _ _ _ _ _ r q).trans (rotatedB m c t 2048 _ hs (by omega) r q)).trans (congrArg (refB 2048 hs (Z m c) (Host.cos angB) (Host.sin angB)) ?_)
  blk_ext [rowOf, idx t]

/-- Result 12's block. -/
theorem block12 (x0 : Vec Ideal S512x2048 .f32) (x1 : Vec Ideal S1x2048 .f32) (x2 : Vec Ideal S2048x4608 .bf16)
    (x3 x4 x5 x6 : Vec Ideal S512x128 .f32) (r q : Fin 512) :
    out0_12 (F := Ideal) x0 x1 x2 x3 x4 x5 x6 (ix2 r q)
      = k0_pay14 (F := Ideal) (k0_pay5 x0 x1) (View.ld x2 r0_13) (ix2 r q) := by
  refine (congrFun (View.canon_unit_zero (S := S512x512) (Val := Elt Ideal) (e := .f32) (off := ![0, 0]) (by funext a; fin_cases a <;> rfl) _
    (k0_pay14 (F := Ideal) (k0_pay5 (View.ld x0 r0_0) (View.ld x1 r0_1)) (View.ld x2 r0_13))) (ix2 r q)).trans ?_
  rw [ld0, ld1]

/-- Result 12: columns 2560 to 3071 of the projected rows. -/
theorem out12 (hs) : (dats m 0 c).arrAt 12 (cfgs 0).N
      = (refP 2560 hs (Z m c)) := by
  refine (dats m 0 c).arrAt_eq_of_covers 12 (refP 2560 hs (Z m c)) (by decide +kernel) fun t _ y => ?_
  obtain ⟨r, q, rfl⟩ : ∃ (r q : Fin 512), y = ix2 r q := ⟨y 0, y 1, eq_ix2 (n0 := 512) (n1 := 512) y⟩
  blk_simp
  rw [after0_12]
  refine (block12 _ _ _ _ _ _ _ r q).trans ?_
  refine (plain_eq m c t 2560 _ hs (by omega) r q).trans (congrArg (refP 2560 hs (Z m c)) ?_)
  blk_ext [rowOf, idx t]

/-- Result 13's block. -/
theorem block13 (x0 : Vec Ideal S512x2048 .f32) (x1 : Vec Ideal S1x2048 .f32) (x2 : Vec Ideal S2048x4608 .bf16)
    (x3 x4 x5 x6 : Vec Ideal S512x128 .f32) (r q : Fin 512) :
    out0_13 (F := Ideal) x0 x1 x2 x3 x4 x5 x6 (ix2 r q)
      = k0_pay14 (F := Ideal) (k0_pay5 x0 x1) (View.ld x2 r0_14) (ix2 r q) := by
  refine (congrFun (View.canon_unit_zero (S := S512x512) (Val := Elt Ideal) (e := .f32) (off := ![0, 0]) (by funext a; fin_cases a <;> rfl) _
    (k0_pay14 (F := Ideal) (k0_pay5 (View.ld x0 r0_0) (View.ld x1 r0_1)) (View.ld x2 r0_14))) (ix2 r q)).trans ?_
  rw [ld0, ld1]

/-- Result 13: columns 3072 to 3583 of the projected rows. -/
theorem out13 (hs) : (dats m 0 c).arrAt 13 (cfgs 0).N
      = (refP 3072 hs (Z m c)) := by
  refine (dats m 0 c).arrAt_eq_of_covers 13 (refP 3072 hs (Z m c)) (by decide +kernel) fun t _ y => ?_
  obtain ⟨r, q, rfl⟩ : ∃ (r q : Fin 512), y = ix2 r q := ⟨y 0, y 1, eq_ix2 (n0 := 512) (n1 := 512) y⟩
  blk_simp
  rw [after0_13]
  refine (block13 _ _ _ _ _ _ _ r q).trans ?_
  refine (plain_eq m c t 3072 _ hs (by omega) r q).trans (congrArg (refP 3072 hs (Z m c)) ?_)
  blk_ext [rowOf, idx t]

/-- Result 14's block. -/
theorem block14 (x0 : Vec Ideal S512x2048 .f32) (x1 : Vec Ideal S1x2048 .f32) (x2 : Vec Ideal S2048x4608 .bf16)
    (x3 x4 x5 x6 : Vec Ideal S512x128 .f32) (r q : Fin 512) :
    out0_14 (F := Ideal) x0 x1 x2 x3 x4 x5 x6 (ix2 r q)
      = k0_pay14 (F := Ideal) (k0_pay5 x0 x1) (View.ld x2 r0_15) (ix2 r q) := by
  refine (congrFun (View.canon_unit_zero (S := S512x512) (Val := Elt Ideal) (e := .f32) (off := ![0, 0]) (by funext a; fin_cases a <;> rfl) _
    (k0_pay14 (F := Ideal) (k0_pay5 (View.ld x0 r0_0) (View.ld x1 r0_1)) (View.ld x2 r0_15))) (ix2 r q)).trans ?_
  rw [ld0, ld1]

/-- Result 14: columns 3584 to 4095 of the projected rows. -/
theorem out14 (hs) : (dats m 0 c).arrAt 14 (cfgs 0).N
      = (refP 3584 hs (Z m c)) := by
  refine (dats m 0 c).arrAt_eq_of_covers 14 (refP 3584 hs (Z m c)) (by decide +kernel) fun t _ y => ?_
  obtain ⟨r, q, rfl⟩ : ∃ (r q : Fin 512), y = ix2 r q := ⟨y 0, y 1, eq_ix2 (n0 := 512) (n1 := 512) y⟩
  blk_simp
  rw [after0_14]
  refine (block14 _ _ _ _ _ _ _ r q).trans ?_
  refine (plain_eq m c t 3584 _ hs (by omega) r q).trans (congrArg (refP 3584 hs (Z m c)) ?_)
  blk_ext [rowOf, idx t]

/-- Result 15's block. -/
theorem block15 (x0 : Vec Ideal S512x2048 .f32) (x1 : Vec Ideal S1x2048 .f32) (x2 : Vec Ideal S2048x4608 .bf16)
    (x3 x4 x5 x6 : Vec Ideal S512x128 .f32) (r q : Fin 512) :
    out0_15 (F := Ideal) x0 x1 x2 x3 x4 x5 x6 (ix2 r q)
      = k0_pay14 (F := Ideal) (k0_pay5 x0 x1) (View.ld x2 r0_16) (ix2 r q) := by
  refine (congrFun (View.canon_unit_zero (S := S512x512) (Val := Elt Ideal) (e := .f32) (off := ![0, 0]) (by funext a; fin_cases a <;> rfl) _
    (k0_pay14 (F := Ideal) (k0_pay5 (View.ld x0 r0_0) (View.ld x1 r0_1)) (View.ld x2 r0_16))) (ix2 r q)).trans ?_
  rw [ld0, ld1]

/-- Result 15: columns 4096 to 4607 of the projected rows. -/
theorem out15 (hs) : (dats m 0 c).arrAt 15 (cfgs 0).N
      = (refP 4096 hs (Z m c)) := by
  refine (dats m 0 c).arrAt_eq_of_covers 15 (refP 4096 hs (Z m c)) (by decide +kernel) fun t _ y => ?_
  obtain ⟨r, q, rfl⟩ : ∃ (r q : Fin 512), y = ix2 r q := ⟨y 0, y 1, eq_ix2 (n0 := 512) (n1 := 512) y⟩
  blk_simp
  rw [after0_15]
  refine (block15 _ _ _ _ _ _ _ r q).trans ?_
  refine (plain_eq m c t 4096 _ hs (by omega) r q).trans (congrArg (refP 4096 hs (Z m c)) ?_)
  blk_ext [rowOf, idx t]

end Kernel

open Cert.ProjRefIdeal.Value in
/-- The reference's projected rows are `refZ` of its arguments. -/
theorem ref14 (m' : (ℓ : Loc ProjRefIdeal.nD ProjRefIdeal.τ ProjRefIdeal.sig) → Buf (Elt Ideal) ℓ) (c : Dev ProjRefIdeal.nD) :
    res_main_v14 (StableHlo.launchContents m' c) = refZ (m' (c.tc.loc ProjRefIdeal.main_arg0)) (m' (c.tc.loc ProjRefIdeal.main_arg1))
      (m' (c.tc.loc ProjRefIdeal.main_arg2)) := rfl

open Cert.ProjRefIdeal.Value in
/-- The angles of the first head group's queries. -/
theorem ref37 (V0) : res_main_v37 (F := Ideal) V0 = angA := rfl
open Cert.ProjRefIdeal.Value in
/-- The angles of the first head group's keys. -/
theorem ref73 (V0) : res_main_v73 (F := Ideal) V0 = angA := rfl
open Cert.ProjRefIdeal.Value in
/-- The angles of the second head group's queries. -/
theorem ref109 (V0) : res_main_v109 (F := Ideal) V0 = angB := rfl
open Cert.ProjRefIdeal.Value in
/-- The angles of the second head group's keys. -/
theorem ref145 (V0) : res_main_v145 (F := Ideal) V0 = angB := rfl

/-- The gate's two halves are the reference's, sliced twice. -/
theorem twice (o : ℕ) (ho : ProjRefIdeal.S2x4096x1024.Slices ![0, 0, o] ProjRefIdeal.S2x4096x512)
    (hs : ProjRefIdeal.S2x4096x4608.Slices ![0, 0, 3072 + o] ProjRefIdeal.S2x4096x512) (h2 : o + 512 ≤ 1024)
    (z : FVec Ideal ProjRefIdeal.S2x4096x4608 .f32) :
    shapeCast (α := EReal) ProjRefIdeal.S8192x512 (extractStridedSlice ProjRefIdeal.S2x4096x512 ![0, 0, o]
      (extractStridedSlice ProjRefIdeal.S2x4096x1024 ![0, 0, 3072] z ProjRefIdeal.Gen.slices_S2x4096x4608_S2x4096x1024_0_0_3072) ho)
      ProjRefIdeal.Gen.shapeCasts_S2x4096x512_S8192x512 = refP (3072 + o) hs z := by
  funext y
  obtain ⟨r, q, rfl⟩ : ∃ (r : Fin 8192) (q : Fin 512), y = ix2 r q := ⟨y 0, y 1, eq_ix2 (n0 := 8192) (n1 := 512) y⟩
  rw [refP, plain_at _ _ _ (by omega)]
  pointwise [add_assoc]

set_option maxHeartbeats 1600000 in
open Cert.ProjRefIdeal.Value Cert.ProjRefIdeal.Gen in
/-- The kernel's results at the extended reals are the reference's, element by element. -/
theorem algebraic : Cert.algebraic_ProjIdeal_ProjRefIdeal := by
  intro m g m' g' _ hagree
  refine ⟨fun c => (dats m 0 c).arrAt 7 (cfgs 0).N, fun c => (dats m 0 c).arrAt 8 (cfgs 0).N,
    fun c => (dats m 0 c).arrAt 9 (cfgs 0).N, fun c => (dats m 0 c).arrAt 10 (cfgs 0).N,
    fun c => (dats m 0 c).arrAt 11 (cfgs 0).N, fun c => (dats m 0 c).arrAt 12 (cfgs 0).N,
    fun c => (dats m 0 c).arrAt 13 (cfgs 0).N, fun c => (dats m 0 c).arrAt 14 (cfgs 0).N,
    fun c => (dats m 0 c).arrAt 15 (cfgs 0).N, ?_, ?_⟩
  · refine θ_run_mono (θ_run_and (Cert.ProjIdeal.Gen.run_main m g) (Cert.ProjIdeal.Gen.frame m g)) ?_
    intro r hr c
    have h := (hr.1 c).1
    exact ⟨h 7, h 8, h 9, h 10, h 11, h 12, h 13, h 14, h 15, hr.2.1 c⟩
  · refine θ_run_mono (Cert.ProjRefIdeal.Value.run m' g') ?_
    intro r hr c
    have eZ : res_main_v14 (StableHlo.launchContents m' c) = Z m c := by
      rw [ref14, (hagree c).1, (hagree c).2.1, (hagree c).2.2]; rfl
    obtain ⟨h0, h1, h2, h3, h4, h5, h6, h7, h8, ha⟩ := hr c
    refine ⟨h0.trans (Eq.symm ?_), h1.trans (Eq.symm ?_), h2.trans (Eq.symm ?_), h3.trans (Eq.symm ?_), h4.trans (Eq.symm ?_),
      h5.trans (Eq.symm ?_), h6.trans (Eq.symm ?_), h7.trans (Eq.symm ?_), h8.trans (Eq.symm ?_), ha⟩
    · refine (out7 m c slices_S2x4096x4608_S2x4096x512_0_0_0).trans ?_; rw [← eZ]; rfl
    · refine (out8 m c slices_S2x4096x4608_S2x4096x512_0_0_512).trans ?_; rw [← eZ]; rfl
    · refine (out9 m c slices_S2x4096x4608_S2x4096x512_0_0_1024).trans ?_; rw [← eZ]; rfl
    · refine (out10 m c slices_S2x4096x4608_S2x4096x512_0_0_1536).trans ?_; rw [← eZ]; rfl
    · refine (out11 m c slices_S2x4096x4608_S2x4096x512_0_0_2048).trans ?_; rw [← eZ]; rfl
    · refine (out12 m c slices_S2x4096x4608_S2x4096x512_0_0_2560).trans ?_; rw [← eZ]; rfl
    · refine (out13 m c (by decide)).trans ?_; rw [← eZ]; exact (twice 0 _ _ (by omega) _).symm
    · refine (out14 m c (by decide)).trans ?_; rw [← eZ]; exact (twice 512 _ _ (by omega) _).symm
    · refine (out15 m c slices_S2x4096x4608_S2x4096x512_0_0_4096).trans ?_; rw [← eZ]; rfl

end Cert.Proof.ProjClaims

end
-- ==== Proof.Out.lean ====
/- The claims about the output projection: its frames, and that at the extended reals it computes the
   reference's projection of the four mixers plus the residual. Hand-written, untrusted. -/
module

public import proofs.«01_k».proof.Defs
public import proofs.«01_k».proof.Proof.Gen.Out.Frame
public import proofs.«01_k».proof.Proof.Gen.OutIdeal.Frame
public import proofs.«01_k».proof.Proof.Gen.OutRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.OutClaims

/-- The kernel leaves its arguments alone and its counters at zero, on words. -/
theorem frame_p : Cert.quiescent_Out := fun m ρ _ => Cert.Out.Gen.frame m ρ
/-- The same, of the kernel read at the extended reals. -/
theorem frame_pi : Cert.quiescent_OutIdeal := fun m ρ _ => Cert.OutIdeal.Gen.frame m ρ
/-- The reference leaves its arguments alone; it has no counter. -/
theorem frame_ri : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)
/-- Nothing was rewritten on the way to the extended reals. -/
theorem preserves : Cert.preserves_Out_OutIdeal := trivial

open Cert.OutIdeal Cert.OutIdeal.Gen in
/-- Each window's block at each point of the grid: row block `t` of the rows, the whole matrix. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![t.val, 0] :=
  (by decide +kernel : ∀ t : Fin grid0.N, _)

/-- The reference's result as a function of its arguments. -/
def refTerm (x : FVec Ideal OutRefIdeal.S2x4096x2048 .f32) (a b d e : FVec Ideal OutRefIdeal.S2x4096x512 .f32)
    (w : FVec Ideal OutRefIdeal.S2048x2048 .f32) : FVec Ideal OutRefIdeal.S8192x2048 .f32 :=
  shapeCast OutRefIdeal.S8192x2048
      (addf x
        (Host.dotGeneral OutRefIdeal.dot_S2x4096x2048_S2048x2048_S2x4096x2048_2_0_01_1_n_n none
          (concatenate OutRefIdeal.S2x4096x2048 2
            [⟨OutRefIdeal.S2x4096x512, a⟩, ⟨OutRefIdeal.S2x4096x512, b⟩,
              ⟨OutRefIdeal.S2x4096x512, d⟩, ⟨OutRefIdeal.S2x4096x512, e⟩]
            OutRefIdeal.Gen.concatenates_S2x4096x512_S2x4096x512_S2x4096x512_S2x4096x512_S2x4096x2048_d2) w))
      OutRefIdeal.Gen.shapeCasts_S2x4096x2048_S8192x2048

/-- A sum over 2048 indices as four sums over 512. -/
theorem sum_four (f : Fin 2048 → EReal) : ∑ k, f k = (∑ k : Fin 512, f ⟨k.val, by omega⟩) +
    (∑ k : Fin 512, f ⟨512 + k.val, by omega⟩) + (∑ k : Fin 512, f ⟨1024 + k.val, by omega⟩)
    + (∑ k : Fin 512, f ⟨1536 + k.val, by omega⟩) := by
  have e1 := Fin.sum_univ_add (a := 1536) (b := 512) f
  have e2 := Fin.sum_univ_add (a := 1024) (b := 512) fun i : Fin 1536 => f (Fin.castAdd 512 i)
  have e3 := Fin.sum_univ_add (a := 512) (b := 512) fun i : Fin 1024 => f (Fin.castAdd 512 (Fin.castAdd 512 i))
  exact e1.trans (congrArg (· + _) (e2.trans (congrArg (· + _) e3)))

/-- One element of the projection: the residual `x` plus the four mixers' rows against the four row blocks of the
    weight's column. -/
def outAt (x : EReal) (a b d e w0 w1 w2 w3 : Fin 512 → EReal) : EReal :=
  x + (∑ k : Fin 512, a k * w0 k) + (∑ k : Fin 512, b k * w1 k) + (∑ k : Fin 512, d k * w2 k) + (∑ k : Fin 512, e k * w3 k)

/-- Row `r` of a mixer's output, the two leading axes read as one. -/
def row (a : FVec Ideal OutRefIdeal.S2x4096x512 .f32) (r : Fin 8192) (k : Fin 512) : EReal :=
  shapeCast (α := EReal) OutIdeal.S8192x512 a OutIdeal.Gen.shapeCasts_S2x4096x512_S8192x512 (ix2 r k)

/-- That row, in the argument's own indices. -/
theorem row_at (a : FVec Ideal OutRefIdeal.S2x4096x512 .f32) (r : Fin 8192) (k : Fin 512) :
    row a r k = a (ix3 ⟨r.val / 4096, by omega⟩ ⟨r.val % 4096, by omega⟩ k) := by
  pointwise [row]

open Cert.OutIdeal Cert.OutIdeal.Gen in
/-- Where a load of 512 rows of the weight from row `o` on reads. -/
theorem rows_idx (o : ℕ) (h) (k : Fin 512) (j : Fin 2048) (ho : o + 512 ≤ 2048) :
    (Rect.unit (s := S2048x2048) ![o, 0] S512x2048.size h).idx (ix2 k j) = ix2 ⟨o + k.val, by omega⟩ j := by
  funext a; fin_cases a
  · exact Fin.ext (by show o + 1 * k.val = o + k.val; omega)
  · exact Fin.ext (by show 0 + 1 * j.val = j.val; omega)

/-- The reference at an index: one dot product over the four mixers side by side is the sum of four. -/
theorem ref_at (x : FVec Ideal OutRefIdeal.S2x4096x2048 .f32) (a b d e : FVec Ideal OutRefIdeal.S2x4096x512 .f32)
    (w : FVec Ideal OutRefIdeal.S2048x2048 .f32) (y : OutRefIdeal.S8192x2048.Idx) :
    refTerm x a b d e w y = outAt (shapeCast (α := EReal) OutRefIdeal.S8192x2048 x
      OutRefIdeal.Gen.shapeCasts_S2x4096x2048_S8192x2048 y)
      (row a (y 0)) (row b (y 0)) (row d (y 0)) (row e (y 0)) (fun k => w (ix2 ⟨k.val, by omega⟩ (y 1)))
      (fun k => w (ix2 ⟨512 + k.val, by omega⟩ (y 1))) (fun k => w (ix2 ⟨1024 + k.val, by omega⟩ (y 1)))
      (fun k => w (ix2 ⟨1536 + k.val, by omega⟩ (y 1))) := by
  have assoc : ∀ x A B C D : EReal, x + (A + B + C + D) = x + A + B + C + D := fun x A B C D => by
    simp only [add_assoc]
  pointwise [refTerm]
  rw [sum_four, assoc, outAt]
  refine congrArg₂ (· + ·) (congrArg₂ (· + ·) (congrArg₂ (· + ·) (congrArg₂ (· + ·) rfl (Finset.sum_congr rfl fun k _ => ?_))
    (Finset.sum_congr rfl fun k _ => ?_)) (Finset.sum_congr rfl fun k _ => ?_)) (Finset.sum_congr rfl fun k _ => ?_)
  all_goals
    have hk := k.isLt
    refine congrArg (· * _) ?_
    refine Eq.trans ?_ (row_at _ _ _).symm
  · rw [dif_pos (by show k.val < 512; omega)]
  · rw [dif_neg (by show ¬ 512 + k.val < 512; omega), dif_pos (by show 512 + k.val - 512 < 512; omega)]
    exact congrArg (fun q : Fin 512 => b (ix3 _ _ q)) (Fin.ext (show 512 + k.val - 512 = k.val by omega))
  · rw [dif_neg (by show ¬ 1024 + k.val < 512; omega), dif_neg (by show ¬ 1024 + k.val - 512 < 512; omega),
      dif_pos (by show 1024 + k.val - 512 - 512 < 512; omega)]
    exact congrArg (fun q : Fin 512 => d (ix3 _ _ q)) (Fin.ext (show 1024 + k.val - 512 - 512 = k.val by omega))
  · rw [dif_neg (by show ¬ 1536 + k.val < 512; omega), dif_neg (by show ¬ 1536 + k.val - 512 < 512; omega),
      dif_neg (by show ¬ 1536 + k.val - 512 - 512 < 512; omega)]
    exact congrArg (fun q : Fin 512 => e (ix3 _ _ q)) (Fin.ext (show 1536 + k.val - 512 - 512 - 512 = k.val by omega))

open Cert.OutIdeal Cert.OutIdeal.Gen in
/-- What the body stores, at an index. -/
theorem pay_at (x : FVec Ideal S512x2048 .f32) (a b d e : FVec Ideal S512x512 .bf16)
    (w0 w1 w2 w3 : FVec Ideal S512x2048 .bf16) (y : S512x2048.Idx) :
    k0_pay1 (F := Ideal) x a w0 b w1 d w2 e w3 y
      = outAt (x y) (fun k => a (ix2 (y 0) k)) (fun k => b (ix2 (y 0) k)) (fun k => d (ix2 (y 0) k))
        (fun k => e (ix2 (y 0) k)) (fun k => w0 (ix2 k (y 1))) (fun k => w1 (ix2 k (y 1))) (fun k => w2 (ix2 k (y 1)))
        (fun k => w3 (ix2 k (y 1))) := by
  pointwise [k0_pay1, outAt]

/-- The element depends on the residual and the rows and columns read. -/
theorem outAt_congr {x x' : EReal} {a b d e w0 w1 w2 w3 a' b' d' e' w0' w1' w2' w3' : Fin 512 → EReal} (hx : x = x')
    (ha : ∀ k, a k = a' k) (hb : ∀ k, b k = b' k) (hd : ∀ k, d k = d' k) (he : ∀ k, e k = e' k)
    (h0 : ∀ k, w0 k = w0' k) (h1 : ∀ k, w1 k = w1' k) (h2 : ∀ k, w2 k = w2' k) (h3 : ∀ k, w3 k = w3' k) :
    outAt x a b d e w0 w1 w2 w3 = outAt x' a' b' d' e' w0' w1' w2' w3' := by
  rw [hx, funext ha, funext hb, funext hd, funext he, funext h0, funext h1, funext h2, funext h3]

open Cert.OutIdeal Cert.OutIdeal.Gen in
/-- The kernel's result at the extended reals is the reference's, element by element. -/
theorem algebraic : Cert.algebraic_OutIdeal_OutRefIdeal := by
  pair_intro
  · run_from Cert.OutIdeal.Gen.run_main m g
  · run_from Cert.OutRefIdeal.Value.run m' g'
    obtain ⟨-, h1, h2, h3, h4, -⟩ := hagree c
    rw [h1, h2, h3, h4]
    symm
    refine (Cert.OutIdeal.Gen.dats m 0 c).arrAt_eq_of_covers 6 (refTerm (m (c.tc.loc main_arg0)) (m (c.tc.loc main_arg1)) (m (c.tc.loc main_arg2)) (m (c.tc.loc main_arg3)) (m (c.tc.loc main_arg4)) (m (c.tc.loc main_arg5))) (by decide +kernel) fun t _ y => ?_
    blk_simp
    rw [after0_6]
    frame_out
    rw [pay_at, ref_at]
    refine outAt_congr ?_ (fun k => ?_) (fun k => ?_) (fun k => ?_) (fun k => ?_) (fun k => ?_) (fun k => ?_) (fun k => ?_)
      (fun k => ?_)
    · blk_point [iblk, V, idx t]
    · show _ = shapeCast (α := EReal) _ _ _ _
      blk_point [iblk, V, idx t]
    · show _ = shapeCast (α := EReal) _ _ _ _
      blk_point [iblk, V, idx t]
    · show _ = shapeCast (α := EReal) _ _ _ _
      blk_point [iblk, V, idx t]
    · show _ = shapeCast (α := EReal) _ _ _ _
      blk_point [iblk, V, idx t]
    · refine (congrArg (iblk m c 5 t) (rows_idx 0 _ k (y 1) (by omega))).trans ?_
      blk_point [iblk, V, idx t]
    · refine (congrArg (iblk m c 5 t) (rows_idx 512 _ k (y 1) (by omega))).trans ?_
      blk_point [iblk, V, idx t]
    · refine (congrArg (iblk m c 5 t) (rows_idx 1024 _ k (y 1) (by omega))).trans ?_
      blk_point [iblk, V, idx t]
    · refine (congrArg (iblk m c 5 t) (rows_idx 1536 _ k (y 1) (by omega))).trans ?_
      blk_point [iblk, V, idx t]

end Cert.Proof.OutClaims

end
-- ==== Proof.Norm.lean ====
/- The claims about the final normalisation call: its frames, and that at the extended reals it computes the
   reference's rmsnorm. Hand-written, untrusted. -/
module

public import proofs.«01_k».proof.Defs
public import proofs.«01_k».proof.Proof.Gen.Norm.Frame
public import proofs.«01_k».proof.Proof.Gen.NormIdeal.Frame
public import proofs.«01_k».proof.Proof.Gen.NormRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.NormClaims

/-- The kernel leaves its arguments alone and its counters at zero, on words. -/
theorem frame_p : Cert.quiescent_Norm := fun m ρ _ => Cert.Norm.Gen.frame m ρ
/-- The same, of the kernel read at the extended reals. -/
theorem frame_pi : Cert.quiescent_NormIdeal := fun m ρ _ => Cert.NormIdeal.Gen.frame m ρ
/-- The reference leaves its arguments alone; it has no counter. -/
theorem frame_ri : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)
/-- Nothing was rewritten on the way to the extended reals. -/
theorem preserves : Cert.preserves_Norm_NormIdeal := trivial

open Cert.NormIdeal Cert.NormIdeal.Gen in
/-- Each window's block at each point of the grid: row block `t` of the rows, the whole gain. -/
theorem idx : ∀ t : Fin cfg0.N, win0_0.index t = ![t.val, 0] ∧ win0_1.index t = ![0, 0]
    ∧ win0_2.index t = ![t.val, 0] :=
  (by decide +kernel : ∀ t : Fin grid0.N, _)

open Cert.NormIdeal Cert.NormIdeal.Gen in
/-- The reference's result as a function of its two arguments. -/
def refTerm (x : FVec Ideal NormRefIdeal.S2x4096x2048 .f32) (g : FVec Ideal NormRefIdeal.S2048 .f32) :
    FVec Ideal NormRefIdeal.S8192x2048 .f32 :=
  shapeCast NormRefIdeal.S8192x2048
      (mulf
        (mulf x
          (broadcastInDim NormRefIdeal.S2x4096x2048 ![0, 1, 2] NormRefIdeal.Gen.bcast_S2x4096x1_S2x4096x2048_0_1_2
            (Host.rsqrt
              (addf
                (Host.divf
                  (broadcastInDim NormRefIdeal.S2x4096x1 ![0, 1] NormRefIdeal.Gen.bcast_S2x4096_S2x4096x1_0_1
                    (Host.reduceAdd (mulf x x)
                      (constant NormRefIdeal.S_ FTy.f32 0#32) NormRefIdeal.Gen.reducesTo_S2x4096x2048_S2x4096_d2
                      NormRefIdeal.Gen.h_S_))
                  (broadcastInDim NormRefIdeal.S2x4096x1 ![] NormRefIdeal.Gen.bcast_S_S2x4096x1
                    (constant NormRefIdeal.S_ FTy.f32 1157627904#32)))
                (broadcastInDim NormRefIdeal.S2x4096x1 ![] NormRefIdeal.Gen.bcast_S_S2x4096x1
                  (constant NormRefIdeal.S_ FTy.f32 897988541#32))))))
        (broadcastInDim NormRefIdeal.S2x4096x2048 ![0, 1, 2] NormRefIdeal.Gen.bcast_S1x1x2048_S2x4096x2048_0_1_2
          (broadcastInDim NormRefIdeal.S1x1x2048 ![2] NormRefIdeal.Gen.bcast_S2048_S1x1x2048_2 g)))
      NormRefIdeal.Gen.shapeCasts_S2x4096x2048_S8192x2048

/-- One element of a normalised row: `row` is the row it lies in, `g` the gain of its column. -/
def normAt (row : Fin 2048 → EReal) (j : Fin 2048) (g : EReal) : EReal :=
  row j * Ideal.rsqrt (Ideal.div (∑ k, row k * row k) (Ideal.ofBits FTy.f32 1157627904#32)
    + Ideal.ofBits FTy.f32 897988541#32) * g

open Cert.NormIdeal Cert.NormIdeal.Gen in
/-- What the body stores, at an index: the element of that row, normalised. -/
theorem pay_at (x : FVec Ideal S512x2048 .f32) (g : FVec Ideal S1x2048 .f32) (y : S512x2048.Idx) :
    k0_pay1 (F := Ideal) x g y = normAt (fun k => x (ix2 (y 0) k)) (y 1) (g (ix2 0 (y 1))) := by
  pointwise [k0_pay1, normAt]

/-- The reference at an index: the same element of the same row. -/
theorem ref_at (x : FVec Ideal NormRefIdeal.S2x4096x2048 .f32) (g : FVec Ideal NormRefIdeal.S2048 .f32)
    (y : NormRefIdeal.S8192x2048.Idx) :
    refTerm x g y = normAt (fun k => shapeCast (α := EReal) NormRefIdeal.S8192x2048 x
      NormRefIdeal.Gen.shapeCasts_S2x4096x2048_S8192x2048 (ix2 (y 0) k)) (y 1) (g (ix1 (y 1))) := by
  pointwise [refTerm, normAt]

open Cert.NormIdeal Cert.NormIdeal.Gen in
set_option maxHeartbeats 1600000 in
/-- The kernel's result at the extended reals is the reference's, element by element. -/
theorem algebraic : Cert.algebraic_NormIdeal_NormRefIdeal := by
  pair_intro
  · run_from Cert.NormIdeal.Gen.run_main m g
  · run_from Cert.NormRefIdeal.Value.run m' g'
    symm
    refine (Cert.NormIdeal.Gen.dats m 0 c).arrAt_eq_of_covers 2 (refTerm (m (c.tc.loc main_arg0)) (m (c.tc.loc main_arg1))) (by decide +kernel) fun t _ y => ?_
    blk_simp
    rw [after0_2]
    frame_out
    rw [pay_at, ref_at]
    blk_point [iblk, V, idx t, normAt]

end Cert.Proof.NormClaims

end
-- ==== Proof.ProjS.lean ====
/- The claims about the input projection of the sampled token: its frames, and that at the extended reals it computes the
   reference's projection of the
   normalised rows, its query and key columns rotated. Hand-written, untrusted. -/
module

public import proofs.«01_k».proof.Defs
public import proofs.«01_k».proof.Proof.Gen.ProjS.Frame
public import proofs.«01_k».proof.Proof.Gen.ProjSIdeal.Frame
public import proofs.«01_k».proof.Proof.Gen.ProjSRefIdeal.Run
public import proofs.«01_k».proof.Proof.Proj
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.ProjSClaims

open Cert.Proof.ProjClaims (normAt rotA rotB lane half half_at)

/-- The kernel leaves its arguments alone and its counters at zero, on words. -/
theorem frame_p : Cert.quiescent_ProjS := fun m ρ _ => Cert.ProjS.Gen.frame m ρ
/-- The same, of the kernel read at the extended reals. -/
theorem frame_pi : Cert.quiescent_ProjSIdeal := fun m ρ _ => Cert.ProjSIdeal.Gen.frame m ρ
/-- The reference leaves its arguments alone; it has no counter. -/
theorem frame_ri : Cert.quiescent_ProjSRefIdeal := fun m ρ _ =>
  (θ_run Cert.ProjSRefIdeal.defs _ _).mono (fun r h => ⟨fun c => (h c).2.2.2.2.2.2.2.2.2,
      Idealize.ShloMosaic.sem_eq_zero_of_no_sems (by decide) r.2⟩)
    (Cert.ProjSRefIdeal.Value.run (F := Ideal) m ρ)
/-- Nothing was rewritten on the way to the extended reals. -/
theorem preserves : Cert.preserves_ProjS_ProjSIdeal := trivial

section Reference

open Cert.ProjSRefIdeal Cert.ProjSRefIdeal.Gen

/-- The reference's projected rows as a function of its arguments. -/
def refZ (x : FVec Ideal S8x1x2048 .f32) (g : FVec Ideal S2048 .f32) (w : FVec Ideal S2048x4608 .f32) :
    FVec Ideal S8x1x4608 .f32 :=
  Host.dotGeneral dot_S8x1x2048_S2048x4608_S8x1x4608_2_0_01_1_n_n none
    (mulf (mulf x (broadcastInDim S8x1x2048 ![0, 1, 2] bcast_S8x1x1_S8x1x2048_0_1_2
      (Host.rsqrt (addf (Host.divf (broadcastInDim S8x1x1 ![0, 1] bcast_S8x1_S8x1x1_0_1
        (Host.reduceAdd (mulf x x) (constant S_ .f32 0x00000000#32) reducesTo_S8x1x2048_S8x1_d2 h_S_))
        (broadcastInDim S8x1x1 ![] bcast_S_S8x1x1 (constant S_ .f32 0x45000000#32)))
        (broadcastInDim S8x1x1 ![] bcast_S_S8x1x1 (constant S_ .f32 0x358637BD#32))))))
      (broadcastInDim S8x1x2048 ![0, 1, 2] bcast_S1x1x2048_S8x1x2048_0_1_2
        (broadcastInDim S1x1x2048 ![2] bcast_S2048_S1x1x2048_2 g))) w

/-- Row `r` of the input, the axis of the one sampled token dropped. -/
def row (x : FVec Ideal S8x1x2048 .f32) (r : Fin 8) (k : Fin 2048) : EReal :=
  shapeCast (α := EReal) ProjSIdeal.S8x2048 x ProjSIdeal.Gen.shapeCasts_S8x1x2048_S8x2048 (ix2 r k)

/-- That row, in the argument's own indices. -/
theorem row_at (x : FVec Ideal S8x1x2048 .f32) (r : Fin 8) (k : Fin 2048) :
    row x r k = x (ix3 r 0 k) := by
  pointwise [row]

/-- One element of the projected rows. -/
def zAt (x : FVec Ideal S8x1x2048 .f32) (g : FVec Ideal S2048 .f32) (w : FVec Ideal S2048x4608 .f32) (r : Fin 8)
    (j : Fin 4608) : EReal :=
  ∑ k : Fin 2048, normAt (row x r) k (g (ix1 k)) * w (ix2 k j)

/-- The reference's projected rows at an index. -/
theorem refZ_at (x : FVec Ideal S8x1x2048 .f32) (g : FVec Ideal S2048 .f32) (w : FVec Ideal S2048x4608 .f32)
    (r : Fin 8) (j : Fin 4608) :
    refZ x g w (ix3 r 0 j) = zAt x g w r j := by
  have e : row x r = fun k => x (ix3 r 0 k) := funext (row_at x r)
  unfold zAt
  rw [e]
  pointwise [refZ, normAt]

/-- 512 columns of the projected rows, the axis of the one sampled token dropped. -/
theorem plain_at (z : FVec Ideal S8x1x4608 .f32) (o : ℕ) (h : S8x1x4608.Slices ![0, 0, o] S8x1x512)
    (ho : o + 512 ≤ 4608) (r : Fin 8) (q : Fin 512) :
    shapeCast (α := EReal) S8x512 (extractStridedSlice S8x1x512 ![0, 0, o] z h) shapeCasts_S8x1x512_S8x512
        (ix2 r q)
      = z (ix3 r 0 ⟨o + q.val, by omega⟩) := by
  pointwise []

/-- The rotated columns with heads of 128: the reference's term. -/
def refA (o : ℕ) (h : S8x1x4608.Slices ![0, 0, o] S8x1x512) (z : FVec Ideal S8x1x4608 .f32) (co si : FVec Ideal S1x64 .f32) : FVec Ideal S8x512 .f32 :=
  let z4 : FVec Ideal S8x1x4x128 .f32 := shapeCast (α := EReal) S8x1x4x128 (extractStridedSlice S8x1x512 ![0, 0, o] z h) shapeCasts_S8x1x512_S8x1x4x128
  let z1 := extractStridedSlice S8x1x4x64 ![0, 0, 0, 0] z4 slices_S8x1x4x128_S8x1x4x64_0_0_0_0
  let z2 := extractStridedSlice S8x1x4x64 ![0, 0, 0, 64] z4 slices_S8x1x4x128_S8x1x4x64_0_0_0_64
  let tab := fun u : FVec Ideal S1x64 .f32 => broadcastInDim S8x1x4x64 ![0, 1, 2, 3] bcast_S1x1x1x64_S8x1x4x64_0_1_2_3
    (broadcastInDim S1x1x1x64 ![1, 2, 3] bcast_S1x1x64_S1x1x1x64_1_2_3
      (broadcastInDim S1x1x64 ![0, 2] bcast_S1x64_S1x1x64_0_2 u))
  shapeCast (α := EReal) S8x512 (concatenate S8x1x4x128 3 [⟨S8x1x4x64, subf (mulf z1 (tab co)) (mulf z2 (tab si))⟩,
    ⟨S8x1x4x64, addf (mulf z2 (tab co)) (mulf z1 (tab si))⟩] concatenates_S8x1x4x64_S8x1x4x64_S8x1x4x128_d3)
    shapeCasts_S8x1x4x128_S8x512

/-- The reference's rotation in heads of 128, at an index. -/
theorem refA_at (o : ℕ) (h : S8x1x4608.Slices ![0, 0, o] S8x1x512) (ho : o + 512 ≤ 4608)
    (z : FVec Ideal S8x1x4608 .f32) (co si : FVec Ideal S1x64 .f32) (r : Fin 8) (q : Fin 512) :
    refA o h z co si (ix2 r q)
      = rotA (fun q => z (ix3 r 0 ⟨o + q.val, by omega⟩))
          (fun l => co (ix2 0 l)) (fun l => si (ix2 0 l)) q := by
  pointwise [refA, rotA]
  split_ifs with hq
  · have e : q.val / 128 * 128 + (64 + q.val % 128) = q.val + 64 := by omega
    simp only [e]
  all_goals
    have e : q.val / 128 * 128 + (64 + (q.val % 128 - 64)) = q.val := by omega
    have e' : q.val / 128 * 128 + (q.val % 128 - 64) = q.val - 64 := by omega
    simp only [e, e']

/-- The rotated columns with heads of 64: the reference's term. -/
def refB (o : ℕ) (h : S8x1x4608.Slices ![0, 0, o] S8x1x512) (z : FVec Ideal S8x1x4608 .f32) (co si : FVec Ideal S1x32 .f32) : FVec Ideal S8x512 .f32 :=
  let z4 : FVec Ideal S8x1x8x64 .f32 := shapeCast (α := EReal) S8x1x8x64 (extractStridedSlice S8x1x512 ![0, 0, o] z h) shapeCasts_S8x1x512_S8x1x8x64
  let z1 := extractStridedSlice S8x1x8x32 ![0, 0, 0, 0] z4 slices_S8x1x8x64_S8x1x8x32_0_0_0_0
  let z2 := extractStridedSlice S8x1x8x32 ![0, 0, 0, 32] z4 slices_S8x1x8x64_S8x1x8x32_0_0_0_32
  let tab := fun u : FVec Ideal S1x32 .f32 => broadcastInDim S8x1x8x32 ![0, 1, 2, 3] bcast_S1x1x1x32_S8x1x8x32_0_1_2_3
    (broadcastInDim S1x1x1x32 ![1, 2, 3] bcast_S1x1x32_S1x1x1x32_1_2_3
      (broadcastInDim S1x1x32 ![0, 2] bcast_S1x32_S1x1x32_0_2 u))
  shapeCast (α := EReal) S8x512 (concatenate S8x1x8x64 3 [⟨S8x1x8x32, subf (mulf z1 (tab co)) (mulf z2 (tab si))⟩,
    ⟨S8x1x8x32, addf (mulf z2 (tab co)) (mulf z1 (tab si))⟩] concatenates_S8x1x8x32_S8x1x8x32_S8x1x8x64_d3)
    shapeCasts_S8x1x8x64_S8x512

/-- The reference's rotation in heads of 64, at an index. -/
theorem refB_at (o : ℕ) (h : S8x1x4608.Slices ![0, 0, o] S8x1x512) (ho : o + 512 ≤ 4608)
    (z : FVec Ideal S8x1x4608 .f32) (co si : FVec Ideal S1x32 .f32) (r : Fin 8) (q : Fin 512) :
    refB o h z co si (ix2 r q)
      = rotB (fun q => z (ix3 r 0 ⟨o + q.val, by omega⟩))
          (fun l => co (ix2 0 l)) (fun l => si (ix2 0 l)) q := by
  pointwise [refB, rotB]
  split_ifs with hq
  · have e : q.val / 64 * 64 + (32 + q.val % 64) = q.val + 32 := by omega
    simp only [e]
  all_goals
    have e : q.val / 64 * 64 + (32 + (q.val % 64 - 32)) = q.val := by omega
    have e' : q.val / 64 * 64 + (q.val % 64 - 32) = q.val - 32 := by omega
    simp only [e, e']

/-- The reference's angles of the heads of 128, at the one time of the sampled token. -/
def timeA : FVec Ideal S1x64 .f32 :=
  mulf (broadcastInDim S1x64 ![0, 1] bcast_S1x1_S1x64_0_1 (broadcastInDim S1x1 ![0] bcast_S1_S1x1_0
      (sitofp .f32 (addi (broadcastInDim S1 ![] bcast_S_S1 (constantI S_ 32 16384#32)) (iotaInDim S1 32 0)))))
    (broadcastInDim S1x64 ![1] bcast_S64_S1x64_1 (Host.powf (broadcastInDim S64 ![] bcast_S_S64 (constant S_ .f32 0x461C4000#32))
      (Host.divf (mulf (Host.negf (sitofp .f32 (iotaInDim S64 32 0))) (broadcastInDim S64 ![] bcast_S_S64 (constant S_ .f32 0x40000000#32)))
        (broadcastInDim S64 ![] bcast_S_S64 (constant S_ .f32 0x43000000#32)))))

/-- The same of the heads of 64. -/
def timeB : FVec Ideal S1x32 .f32 :=
  mulf (broadcastInDim S1x32 ![0, 1] bcast_S1x1_S1x32_0_1 (broadcastInDim S1x1 ![0] bcast_S1_S1x1_0
      (sitofp .f32 (addi (broadcastInDim S1 ![] bcast_S_S1 (constantI S_ 32 16384#32)) (iotaInDim S1 32 0)))))
    (broadcastInDim S1x32 ![1] bcast_S32_S1x32_1 (Host.powf (broadcastInDim S32 ![] bcast_S_S32 (constant S_ .f32 0x461C4000#32))
      (Host.divf (mulf (Host.negf (sitofp .f32 (iotaInDim S32 32 0))) (broadcastInDim S32 ![] bcast_S_S32 (constant S_ .f32 0x40000000#32)))
        (broadcastInDim S32 ![] bcast_S_S32 (constant S_ .f32 0x42800000#32)))))

end Reference

open Cert.ProjSIdeal Cert.ProjSIdeal.Gen
open Cert.ProjSRefIdeal (S8x1x2048)

section Kernel

variable (m : (ℓ : Loc nD τ sig) → Buf (Elt Ideal) ℓ) (c : Dev nD)

/-- Each window's block at the grid's one point: the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![0, 0] :=
  (by decide +kernel : ∀ t : Fin grid0.N, _)

/-- The angles of the heads of 128: time times frequency. -/
def angA : FVec Ideal S8x64 .f32 :=
  mulf
    (broadcastInDim S8x64 ![0, 1] bcast_S8x1_S8x64_0_1
      (broadcastInDim S8x1 ![0] bcast_S8_S8x1_0 (sitofp FTy.f32 (broadcastInDim S8 ![] bcast_S_S8 (constantI S_ 32 16384#32)))))
    (broadcastInDim S8x64 ![0, 1] bcast_S1x64_S8x64_0_1
      (broadcastInDim S1x64 ![1] bcast_S64_S1x64_1
        (Host.powf (broadcastInDim S64 ![] bcast_S_S64 (constant S_ FTy.f32 1176256512#32))
          (Host.divf
            (mulf (Host.negf (sitofp FTy.f32 (iotaInDim S64 32 0)))
              (broadcastInDim S64 ![] bcast_S_S64 (constant S_ FTy.f32 1073741824#32)))
            (broadcastInDim S64 ![] bcast_S_S64 (constant S_ FTy.f32 1124073472#32))))))

/-- The angles of the heads of 64. -/
def angB : FVec Ideal S8x32 .f32 :=
  mulf
    (broadcastInDim S8x32 ![0, 1] bcast_S8x1_S8x32_0_1
      (broadcastInDim S8x1 ![0] bcast_S8_S8x1_0 (sitofp FTy.f32 (broadcastInDim S8 ![] bcast_S_S8 (constantI S_ 32 16384#32)))))
    (broadcastInDim S8x32 ![0, 1] bcast_S1x32_S8x32_0_1
      (broadcastInDim S1x32 ![1] bcast_S32_S1x32_1
        (Host.powf (broadcastInDim S32 ![] bcast_S_S32 (constant S_ FTy.f32 1176256512#32))
          (Host.divf
            (mulf (Host.negf (sitofp FTy.f32 (iotaInDim S32 32 0)))
              (broadcastInDim S32 ![] bcast_S_S32 (constant S_ FTy.f32 1073741824#32)))
            (broadcastInDim S32 ![] bcast_S_S32 (constant S_ FTy.f32 1115684864#32))))))

/-- Every row of the kernel's angles is the reference's. -/
theorem angA_at (r : Fin 8) (l : Fin 64) : angA (ix2 r l) = timeA (ix2 0 l) := by
  pointwise [angA, timeA]
  rw [show IntOp.addi 16384#32 0#32 = 16384#32 by decide]

/-- The same of the heads of 64. -/
theorem angB_at (r : Fin 8) (l : Fin 32) : angB (ix2 r l) = timeB (ix2 0 l) := by
  pointwise [angB, timeB]
  rw [show IntOp.addi 16384#32 0#32 = 16384#32 by decide]

/-- A table of the heads of 128: `a` beside `b`. -/
def tileA (a b : FVec Ideal S8x64 .f32) : FVec Ideal S8x128 .f32 :=
  shapeCast (α := EReal) S8x128 (broadcastInDim S1x8x1x128 ![0, 1, 2, 3] bcast_S1x8x1x128_S1x8x1x128_0_1_2_3
    (shapeCast (α := EReal) S1x8x1x128 (concatenate S8x128 1 [⟨S8x64, a⟩, ⟨S8x64, b⟩]
      concatenates_S8x64_S8x64_S8x128_d1) shapeCasts_S8x128_S1x8x1x128)) shapeCasts_S1x8x1x128_S8x128

/-- A table of the heads of 64: `a` beside `b`, twice. -/
def tileB (a b : FVec Ideal S8x32 .f32) : FVec Ideal S8x128 .f32 :=
  shapeCast (α := EReal) S8x128 (broadcastInDim S1x8x2x64 ![0, 1, 2, 3] bcast_S1x8x1x64_S1x8x2x64_0_1_2_3
    (shapeCast (α := EReal) S1x8x1x64 (concatenate S8x64 1 [⟨S8x32, a⟩, ⟨S8x32, b⟩]
      concatenates_S8x32_S8x32_S8x64_d1) shapeCasts_S8x64_S1x8x1x64)) shapeCasts_S1x8x2x64_S8x128

/-- The first table's elements. -/
theorem tileA_at (a b : FVec Ideal S8x64 .f32) (s : Fin 8) (l : Fin 128) :
    tileA a b (ix2 s l) = if h : l.val < 64 then a (ix2 s ⟨l.val, h⟩) else b (ix2 s ⟨l.val - 64, by omega⟩) := by
  pointwise [tileA]

/-- The second table's elements. -/
theorem tileB_at (a b : FVec Ideal S8x32 .f32) (s : Fin 8) (l : Fin 128) :
    tileB a b (ix2 s l)
      = if h : l.val % 64 < 32 then a (ix2 s ⟨l.val % 64, h⟩) else b (ix2 s ⟨l.val % 64 - 32, by omega⟩) := by
  pointwise [tileB]

/-- A block of the table of the heads of 128: cosines. -/
theorem tab3 (t : Fin cfg0.N) (r : Fin 8) (l : Fin 128) :
    @Eq EReal (iblk m c 3 t (ix2 r l)) (tileA (Host.cos angA) (Host.cos angA) (ix2 r l)) := by
  show V m c main_v20 _ = _
  entry_read
  show tileA (Host.cos angA) (Host.cos angA) _ = _
  refine congrArg (tileA (Host.cos angA) (Host.cos angA)) ?_
  blk_ext [idx t]

/-- A block of the table of the heads of 128: sines, the first half negated. -/
theorem tab4 (t : Fin cfg0.N) (r : Fin 8) (l : Fin 128) :
    @Eq EReal (iblk m c 4 t (ix2 r l)) (tileA (Host.negf (Host.sin angA)) (Host.sin angA) (ix2 r l)) := by
  show V m c main_v25 _ = _
  entry_read
  show tileA (Host.negf (Host.sin angA)) (Host.sin angA) _ = _
  refine congrArg (tileA (Host.negf (Host.sin angA)) (Host.sin angA)) ?_
  blk_ext [idx t]

/-- A block of the table of the heads of 64: cosines. -/
theorem tab5 (t : Fin cfg0.N) (r : Fin 8) (l : Fin 128) :
    @Eq EReal (iblk m c 5 t (ix2 r l)) (tileB (Host.cos angB) (Host.cos angB) (ix2 r l)) := by
  show V m c main_v45 _ = _
  entry_read
  show tileB (Host.cos angB) (Host.cos angB) _ = _
  refine congrArg (tileB (Host.cos angB) (Host.cos angB)) ?_
  blk_ext [idx t]

/-- A block of the table of the heads of 64: sines, the first half of each head negated. -/
theorem tab6 (t : Fin cfg0.N) (r : Fin 8) (l : Fin 128) :
    @Eq EReal (iblk m c 6 t (ix2 r l)) (tileB (Host.negf (Host.sin angB)) (Host.sin angB) (ix2 r l)) := by
  show V m c main_v50 _ = _
  entry_read
  show tileB (Host.negf (Host.sin angB)) (Host.sin angB) _ = _
  refine congrArg (tileB (Host.negf (Host.sin angB)) (Host.sin angB)) ?_
  blk_ext [idx t]

/-- The kernel's rotation of one tile of 128 lanes as one head, at an index. -/
theorem pay12_at (co si z : FVec Ideal S8x128 .f32) (r : Fin 8) (l : Fin 128) :
    k0_pay12 (F := Ideal) co si z (ix2 r l)
      = z (ix2 r l) * co (ix2 r l) + z (ix2 r ⟨(l.val + 128 - 64) % 128, by omega⟩) * si (ix2 r l) := by
  pointwise [k0_pay12]

/-- The kernel's rotation of one tile of 128 lanes as two heads, at an index. -/
theorem pay29_at (co si z : FVec Ideal S8x128 .f32) (r : Fin 8) (l : Fin 128) :
    k0_pay29 (F := Ideal) co si z k0_pay26 k0_pay27 k0_pay28 (ix2 r l)
      = z (ix2 r l) * co (ix2 r l) + z (ix2 r (lane l)) * si (ix2 r l) := by
  pointwise [k0_pay29, k0_pay26, k0_pay27, k0_pay28]
  show _ + Scalar.select (half (BitVec.ofNat 32 l.val)) _ _ * _ = _
  rw [half_at, lane]
  split_ifs <;> rfl

/-- An index of a tile of 128 lanes among 512. -/
theorem tile_idx (o : ℕ) (h) (r : Fin 8) (l : Fin 128) (ho : o + 128 ≤ 512) :
    (Rect.unit (s := S8x512) ![0, o] S8x128.size h).emb (ix2 r l) = ix2 r ⟨o + l.val, by omega⟩ := by
  funext a; fin_cases a
  · exact Fin.ext (by show 0 + 1 * r.val = r.val; omega)
  · exact Fin.ext (by show o + 1 * l.val = o + l.val; omega)

/-- A tile of 128 lanes, at an index. -/
theorem slice_at (o : ℕ) (h : S8x512.Slices ![0, o] S8x128) (z : FVec Ideal S8x512 .f32) (r : Fin 8) (l : Fin 128)
    (ho : o + 128 ≤ 512) : extractStridedSlice S8x128 ![0, o] z h (ix2 r l) = z (ix2 r ⟨o + l.val, by omega⟩) := by
  pointwise []

/-- An element of the rotated columns, as one function of the index in the block: `p` is the partner's lane. -/
def tileAt (p : Fin 128 → Fin 128) (z : FVec Ideal S8x512 .f32) (co si : FVec Ideal S8x128 .f32) (r : Fin 8)
    (q : Fin 512) : EReal :=
  z (ix2 r q) * co (ix2 r ⟨q.val % 128, by omega⟩)
    + z (ix2 r ⟨q.val / 128 * 128 + (p ⟨q.val % 128, by omega⟩).val, by omega⟩) * si (ix2 r ⟨q.val % 128, by omega⟩)

/-- A stored tile agrees with that function. -/
theorem piece (p : Fin 128 → Fin 128) (f : FVec Ideal S8x128 .f32 → FVec Ideal S8x128 .f32) (z : FVec Ideal S8x512 .f32)
    (co si : FVec Ideal S8x128 .f32)
    (hf : ∀ u r l, f u (ix2 r l) = u (ix2 r l) * co (ix2 r l) + u (ix2 r (p l)) * si (ix2 r l))
    (o : ℕ) (h : S8x512.Slices ![0, o] S8x128) (hi) (ho : o + 128 ≤ 512) (hd : o % 128 = 0) (x : S8x128.Idx) :
    f (extractStridedSlice S8x128 ![0, o] z h) x
      = (fun y : S8x512.Idx => tileAt p z co si (y 0) (y 1)) ((Rect.unit (s := S8x512) ![0, o] S8x128.size hi).emb x) := by
  obtain ⟨r, l, rfl⟩ : ∃ (r : Fin 8) (l : Fin 128), x = ix2 r l := ⟨x 0, x 1, eq_ix2 (n0 := 8) (n1 := 128) x⟩
  rw [tile_idx o hi r l ho, hf, slice_at o h z r l ho, slice_at o h z r (p l) ho]
  show _ = tileAt p z co si r ⟨o + l.val, _⟩
  have e : (⟨(o + l.val) % 128, by omega⟩ : Fin 128) = l := Fin.ext (by show (o + l.val) % 128 = l.val; omega)
  unfold tileAt
  simp only [e]
  congr 4
  exact Fin.ext (by show o + (p l).val = (o + l.val) / 128 * 128 + (p l).val; omega)

/-- Four stored tiles that agree with that function leave it. -/
theorem four (p : Fin 128 → Fin 128) (f : FVec Ideal S8x128 .f32 → FVec Ideal S8x128 .f32) (z : FVec Ideal S8x512 .f32)
    (co si : FVec Ideal S8x128 .f32)
    (hf : ∀ u r l, f u (ix2 r l) = u (ix2 r l) * co (ix2 r l) + u (ix2 r (p l)) * si (ix2 r l)) (r : Fin 8) (q : Fin 512) :
    View.canon (Val := Elt Ideal) (e := .f32) [⟨r0_7, f (extractStridedSlice S8x128 ![0, 384] z slices_S8x512_o0_384_S8x128)⟩,
        ⟨r0_6, f (extractStridedSlice S8x128 ![0, 256] z slices_S8x512_o0_256_S8x128)⟩,
        ⟨r0_5, f (extractStridedSlice S8x128 ![0, 128] z slices_S8x512_o0_128_S8x128)⟩,
        ⟨r0_4, f (extractStridedSlice S8x128 ![0, 0] z slices_S8x512_o0_0_S8x128)⟩] (ix2 r q)
      = tileAt p z co si r q := by
  refine View.canon_apply_of_pieces (Val := Elt Ideal) (e := .f32) (fun y : S8x512.Idx => tileAt p z co si (y 0) (y 1)) _ ?_ _ (cover0_7 (F := Ideal) _ _ _ _ _)
  intro pc hpc
  simp only [List.mem_cons, List.not_mem_nil, or_false] at hpc
  rcases hpc with rfl | rfl | rfl | rfl
  · exact piece p f z co si hf 384 slices_S8x512_o0_384_S8x128 inb_S8x512_S8x128_0_384 (by omega) rfl
  · exact piece p f z co si hf 256 slices_S8x512_o0_256_S8x128 inb_S8x512_S8x128_0_256 (by omega) rfl
  · exact piece p f z co si hf 128 slices_S8x512_o0_128_S8x128 inb_S8x512_S8x128_0_128 (by omega) rfl
  · exact piece p f z co si hf 0 slices_S8x512_o0_0_S8x128 inb_S8x512_S8x128_0_0 (by omega) rfl

/-- With the tables' elements in place this is the rotation in heads of 128. -/
theorem rotA_eq (z : FVec Ideal S8x512 .f32) (co si : FVec Ideal S8x128 .f32) (r : Fin 8) (q : Fin 512) (s : Fin 8)
    (hco : ∀ l, co (ix2 r l) = tileA (Host.cos angA) (Host.cos angA) (ix2 s l))
    (hsi : ∀ l, si (ix2 r l) = tileA (Host.negf (Host.sin angA)) (Host.sin angA) (ix2 s l)) :
    tileAt (fun l => ⟨(l.val + 128 - 64) % 128, by omega⟩) z co si r q
      = rotA (fun q => z (ix2 r q)) (fun l => Host.cos angA (ix2 s l)) (fun l => Host.sin angA (ix2 s l)) q := by
  unfold tileAt rotA
  rw [hco, hsi, tileA_at, tileA_at]
  by_cases h : q.val % 128 < 64
  · have e : (⟨q.val / 128 * 128 + (q.val % 128 + 128 - 64) % 128, by omega⟩ : Fin 512) = ⟨q.val + 64, by omega⟩ :=
      Fin.ext (by show q.val / 128 * 128 + (q.val % 128 + 128 - 64) % 128 = q.val + 64; omega)
    simp only [dif_pos h, e]
    show _ + _ * -(Host.sin angA _) = _
    rw [mul_neg, sub_eq_add_neg]
  · have e : (⟨q.val / 128 * 128 + (q.val % 128 + 128 - 64) % 128, by omega⟩ : Fin 512) = ⟨q.val - 64, by omega⟩ :=
      Fin.ext (by show q.val / 128 * 128 + (q.val % 128 + 128 - 64) % 128 = q.val - 64; omega)
    simp only [dif_neg h, e]

/-- With the tables' elements in place this is the rotation in heads of 64. -/
theorem rotB_eq (z : FVec Ideal S8x512 .f32) (co si : FVec Ideal S8x128 .f32) (r : Fin 8) (q : Fin 512) (s : Fin 8)
    (hco : ∀ l, co (ix2 r l) = tileB (Host.cos angB) (Host.cos angB) (ix2 s l))
    (hsi : ∀ l, si (ix2 r l) = tileB (Host.negf (Host.sin angB)) (Host.sin angB) (ix2 s l)) :
    tileAt lane z co si r q
      = rotB (fun q => z (ix2 r q)) (fun l => Host.cos angB (ix2 s l)) (fun l => Host.sin angB (ix2 s l)) q := by
  unfold tileAt rotB
  rw [hco, hsi, tileB_at, tileB_at]
  have hm : q.val % 128 % 64 = q.val % 64 := by omega
  simp only [lane, hm]
  by_cases h : q.val % 64 < 32
  · have e : (⟨q.val / 128 * 128 + (q.val % 128 + 128 - 96) % 128, by omega⟩ : Fin 512) = ⟨q.val + 32, by omega⟩ :=
      Fin.ext (by show q.val / 128 * 128 + (q.val % 128 + 128 - 96) % 128 = q.val + 32; omega)
    simp only [dif_pos h, if_pos h, e]
    show _ + _ * -(Host.sin angB _) = _
    rw [mul_neg, sub_eq_add_neg]
  · have e : (⟨q.val / 128 * 128 + (q.val % 128 + 128 - 32) % 128, by omega⟩ : Fin 512) = ⟨q.val - 32, by omega⟩ :=
      Fin.ext (by show q.val / 128 * 128 + (q.val % 128 + 128 - 32) % 128 = q.val - 32; omega)
    simp only [dif_neg h, if_neg h, e]

/-- The kernel's projected rows from its blocks, at an index. -/
theorem pay_z (x : FVec Ideal S8x2048 .f32) (g : FVec Ideal S1x2048 .f32) (w : FVec Ideal S2048x512 .bf16) (r : Fin 8) (q : Fin 512) :
    k0_pay14 (F := Ideal) (k0_pay5 x g) w (ix2 r q)
      = ∑ k : Fin 2048, normAt (fun k => x (ix2 r k)) k (g (ix2 0 k)) * w (ix2 k q) := by
  pointwise [k0_pay14, k0_pay5, normAt]

/-- An index of 512 of the weights' columns. -/
theorem cols_idx (o : ℕ) (h) (k : Fin 2048) (q : Fin 512) (ho : o + 512 ≤ 4608) :
    (Rect.unit (s := S2048x4608) ![0, o] S2048x512.size h).idx (ix2 k q) = ix2 k ⟨o + q.val, by omega⟩ := by
  funext a; fin_cases a
  · exact Fin.ext (by show 0 + 1 * k.val = k.val; omega)
  · exact Fin.ext (by show o + 1 * q.val = o + q.val; omega)

/-- At a point of the grid: 512 columns of the projected rows. -/
theorem z_at (t : Fin cfg0.N) (o : ℕ) (h) (ho : o + 512 ≤ 4608) (r : Fin 8) (q : Fin 512) :
    k0_pay14 (F := Ideal) (k0_pay5 (iblk m c 0 t) (iblk m c 1 t))
        (View.ld (iblk m c 2 t) (Rect.unit (s := S2048x4608) ![0, o] S2048x512.size h)) (ix2 r q)
      = zAt (m (c.tc.loc main_arg0)) (m (c.tc.loc main_arg1)) (m (c.tc.loc main_arg2)) r ⟨o + q.val, by omega⟩ := by
  refine (pay_z _ _ _ r q).trans (Finset.sum_congr rfl fun k _ => congrArg₂ (· * ·) ?_ ?_)
  · refine congrArg₂ (fun u v => normAt u k v) (funext fun k => ?_) ?_
    · show _ = shapeCast (α := EReal) _ _ _ _
      blk_point [iblk, V, idx t]
    · blk_point [iblk, V, idx t]
  · refine (congrArg (iblk m c 2 t) (cols_idx o h k q ho)).trans ?_
    blk_point [iblk, V, idx t]

/-- 512 columns of the projected rows: the reference's term. -/
def refP (o : ℕ) (h : ProjSRefIdeal.S8x1x4608.Slices ![0, 0, o] ProjSRefIdeal.S8x1x512)
    (z : FVec Ideal ProjSRefIdeal.S8x1x4608 .f32) : FVec Ideal ProjSRefIdeal.S8x512 .f32 :=
  shapeCast (α := EReal) ProjSRefIdeal.S8x512 (extractStridedSlice ProjSRefIdeal.S8x1x512 ![0, 0, o] z h)
    ProjSRefIdeal.Gen.shapeCasts_S8x1x512_S8x512

/-- The reference's projected rows, of the arguments the kernel is called with. -/
def Z : FVec Ideal ProjSRefIdeal.S8x1x4608 .f32 :=
  refZ (m (c.tc.loc main_arg0)) (m (c.tc.loc main_arg1)) (m (c.tc.loc main_arg2))

/-- A block of projected columns is the reference's. -/
theorem plain_eq (t : Fin cfg0.N) (o : ℕ) (h) (hs) (ho : o + 512 ≤ 4608) (r : Fin 8) (q : Fin 512) :
    k0_pay14 (F := Ideal) (k0_pay5 (iblk m c 0 t) (iblk m c 1 t))
        (View.ld (iblk m c 2 t) (Rect.unit (s := S2048x4608) ![0, o] S2048x512.size h)) (ix2 r q)
      = refP o hs (Z m c) (ix2 r q) := by
  rw [refP, plain_at _ _ _ ho, z_at m c t o h ho]
  exact (refZ_at _ _ _ _ _).symm

/-- A rotated block in heads of 128 is the reference's. -/
theorem rotatedA (t : Fin cfg0.N) (o : ℕ) (h) (hs) (ho : o + 512 ≤ 4608) (r : Fin 8) (q : Fin 512) :
    tileAt (fun l => ⟨(l.val + 128 - 64) % 128, by omega⟩) (k0_pay14 (F := Ideal) (k0_pay5 (iblk m c 0 t) (iblk m c 1 t))
        (View.ld (iblk m c 2 t) (Rect.unit (s := S2048x4608) ![0, o] S2048x512.size h))) (iblk m c 3 t) (iblk m c 4 t) r q
      = refA o hs (Z m c) (Host.cos timeA) (Host.sin timeA) (ix2 r q) := by
  have ec : (fun l => Host.cos angA (ix2 r l)) = fun l => Host.cos timeA (ix2 0 l) :=
    funext fun l => congrArg Ideal.cos (angA_at r l)
  have es : (fun l => Host.sin angA (ix2 r l)) = fun l => Host.sin timeA (ix2 0 l) :=
    funext fun l => congrArg Ideal.sin (angA_at r l)
  rw [rotA_eq _ _ _ r q r (tab3 m c t r) (tab4 m c t r), refA_at _ _ ho, ec, es]
  refine congrArg (fun z => rotA z _ _ q) (funext fun q => ?_)
  rw [z_at m c t o h ho]
  exact (refZ_at _ _ _ _ _).symm

/-- A rotated block in heads of 64 is the reference's. -/
theorem rotatedB (t : Fin cfg0.N) (o : ℕ) (h) (hs) (ho : o + 512 ≤ 4608) (r : Fin 8) (q : Fin 512) :
    tileAt lane (k0_pay14 (F := Ideal) (k0_pay5 (iblk m c 0 t) (iblk m c 1 t))
        (View.ld (iblk m c 2 t) (Rect.unit (s := S2048x4608) ![0, o] S2048x512.size h))) (iblk m c 5 t) (iblk m c 6 t) r q
      = refB o hs (Z m c) (Host.cos timeB) (Host.sin timeB) (ix2 r q) := by
  have ec : (fun l => Host.cos angB (ix2 r l)) = fun l => Host.cos timeB (ix2 0 l) :=
    funext fun l => congrArg Ideal.cos (angB_at r l)
  have es : (fun l => Host.sin angB (ix2 r l)) = fun l => Host.sin timeB (ix2 0 l) :=
    funext fun l => congrArg Ideal.sin (angB_at r l)
  rw [rotB_eq _ _ _ r q r (tab5 m c t r) (tab6 m c t r), refB_at _ _ ho, ec, es]
  refine congrArg (fun z => rotB z _ _ q) (funext fun q => ?_)
  rw [z_at m c t o h ho]
  exact (refZ_at _ _ _ _ _).symm

/-- A load of a whole buffer reads its contents. -/
theorem ld0 (x : Vec Ideal S8x2048 .f32) : View.ld (Val := Elt Ideal) x r0_0 = x :=
  View.ld_unit_zero (by funext a; fin_cases a <;> rfl) _ _
/-- The same of the gain. -/
theorem ld1 (x : Vec Ideal S1x2048 .f32) : View.ld (Val := Elt Ideal) x r0_1 = x :=
  View.ld_unit_zero (by funext a; fin_cases a <;> rfl) _ _
/-- The same of a table's block. -/
theorem ld3 (x : Vec Ideal S8x128 .f32) : View.ld (Val := Elt Ideal) x r0_3 = x :=
  View.ld_unit_zero (by funext a; fin_cases a <;> rfl) _ _
/-- A table's block cast to its own shape. -/
theorem cast_eq (x : Vec Ideal S8x128 .f32) : k0_pay7 (F := Ideal) x = x := by
  funext y
  obtain ⟨r, l, rfl⟩ : ∃ (r : Fin 8) (l : Fin 128), y = ix2 r l := ⟨y 0, y 1, eq_ix2 (n0 := 8) (n1 := 128) y⟩
  pointwise [k0_pay7]

/-- Result 9's block. -/
theorem block9 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_9 (F := Ideal) x0 x1 x2 x3 x4 x5 x6 (ix2 r q)
      = k0_pay14 (F := Ideal) (k0_pay5 x0 x1) (View.ld x2 r0_9) (ix2 r q) := by
  refine (congrFun (View.canon_unit_zero (S := S8x512) (Val := Elt Ideal) (e := .f32) (off := ![0, 0]) (by funext a; fin_cases a <;> rfl) _
    (k0_pay14 (F := Ideal) (k0_pay5 (View.ld x0 r0_0) (View.ld x1 r0_1)) (View.ld x2 r0_9))) (ix2 r q)).trans ?_
  rw [ld0, ld1]

/-- Result 9: columns 1024 to 1535 of the projected rows. -/
theorem out9 (hs) : (dats m 0 c).arrAt 9 (cfgs 0).N
      = (refP 1024 hs (Z m c)) := by
  refine (dats m 0 c).arrAt_eq_of_covers 9 (refP 1024 hs (Z m c)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_9]
  refine (block9 _ _ _ _ _ _ _ r q).trans ?_
  refine (plain_eq m c t 1024 _ hs (by omega) r q).trans (congrArg (refP 1024 hs (Z m c)) ?_)
  blk_ext [idx t]

/-- Result 7's block, as one function of the index. -/
theorem block7 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_7 (F := Ideal) x0 x1 x2 x3 x4 x5 x6 (ix2 r q)
      = tileAt (fun l => ⟨(l.val + 128 - 64) % 128, by omega⟩) (k0_pay14 (F := Ideal) (k0_pay5 x0 x1) (View.ld x2 r0_2)) x3 x4 r q := by
  refine (four (fun l => ⟨(l.val + 128 - 64) % 128, by omega⟩) (k0_pay12 (k0_pay7 (View.ld x3 r0_3)) (k0_pay7 (View.ld x4 r0_3)))
    (k0_pay14 (F := Ideal) (k0_pay5 (View.ld x0 r0_0) (View.ld x1 r0_1)) (View.ld x2 r0_2)) _ _ (fun u r l => pay12_at _ _ u r l) r q).trans ?_
  rw [ld0, ld1, ld3, ld3, cast_eq, cast_eq]

/-- Result 7: columns 0 to 511 of the projected rows, rotated. -/
theorem out7 (hs) : (dats m 0 c).arrAt 7 (cfgs 0).N = (refA 0 hs (Z m c) (Host.cos timeA) (Host.sin timeA)) := by
  refine (dats m 0 c).arrAt_eq_of_covers 7 (refA 0 hs (Z m c) (Host.cos timeA) (Host.sin timeA)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_7]
  refine ((block7 _ _ _ _ _ _ _ r q).trans (rotatedA m c t 0 _ hs (by omega) r q)).trans (congrArg (refA 0 hs (Z m c) (Host.cos timeA) (Host.sin timeA)) ?_)
  blk_ext [idx t]

/-- Result 10's block, as one function of the index. -/
theorem block10 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_10 (F := Ideal) x0 x1 x2 x3 x4 x5 x6 (ix2 r q)
      = tileAt lane (k0_pay14 (F := Ideal) (k0_pay5 x0 x1) (View.ld x2 r0_11)) x5 x6 r q := by
  refine (four lane (fun u => k0_pay29 (k0_pay7 (View.ld x5 r0_3)) (k0_pay7 (View.ld x6 r0_3)) u k0_pay26 k0_pay27 k0_pay28)
    (k0_pay14 (F := Ideal) (k0_pay5 (View.ld x0 r0_0) (View.ld x1 r0_1)) (View.ld x2 r0_11)) _ _ (fun u r l => pay29_at _ _ u r l) r q).trans ?_
  rw [ld0, ld1, ld3, ld3, cast_eq, cast_eq]

/-- Result 10: columns 1536 to 2047 of the projected rows, rotated. -/
theorem out10 (hs) : (dats m 0 c).arrAt 10 (cfgs 0).N = (refB 1536 hs (Z m c) (Host.cos timeB) (Host.sin timeB)) := by
  refine (dats m 0 c).arrAt_eq_of_covers 10 (refB 1536 hs (Z m c) (Host.cos timeB) (Host.sin timeB)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_10]
  refine ((block10 _ _ _ _ _ _ _ r q).trans (rotatedB m c t 1536 _ hs (by omega) r q)).trans (congrArg (refB 1536 hs (Z m c) (Host.cos timeB) (Host.sin timeB)) ?_)
  blk_ext [idx t]

/-- Result 8's block, as one function of the index. -/
theorem block8 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_8 (F := Ideal) x0 x1 x2 x3 x4 x5 x6 (ix2 r q)
      = tileAt (fun l => ⟨(l.val + 128 - 64) % 128, by omega⟩) (k0_pay14 (F := Ideal) (k0_pay5 x0 x1) (View.ld x2 r0_8)) x3 x4 r q := by
  refine (four (fun l => ⟨(l.val + 128 - 64) % 128, by omega⟩) (k0_pay12 (k0_pay7 (View.ld x3 r0_3)) (k0_pay7 (View.ld x4 r0_3)))
    (k0_pay14 (F := Ideal) (k0_pay5 (View.ld x0 r0_0) (View.ld x1 r0_1)) (View.ld x2 r0_8)) _ _ (fun u r l => pay12_at _ _ u r l) r q).trans ?_
  rw [ld0, ld1, ld3, ld3, cast_eq, cast_eq]

/-- Result 8: columns 512 to 1023 of the projected rows, rotated. -/
theorem out8 (hs) : (dats m 0 c).arrAt 8 (cfgs 0).N = (refA 512 hs (Z m c) (Host.cos timeA) (Host.sin timeA)) := by
  refine (dats m 0 c).arrAt_eq_of_covers 8 (refA 512 hs (Z m c) (Host.cos timeA) (Host.sin timeA)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_8]
  refine ((block8 _ _ _ _ _ _ _ r q).trans (rotatedA m c t 512 _ hs (by omega) r q)).trans (congrArg (refA 512 hs (Z m c) (Host.cos timeA) (Host.sin timeA)) ?_)
  blk_ext [idx t]

/-- Result 11's block, as one function of the index. -/
theorem block11 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_11 (F := Ideal) x0 x1 x2 x3 x4 x5 x6 (ix2 r q)
      = tileAt lane (k0_pay14 (F := Ideal) (k0_pay5 x0 x1) (View.ld x2 r0_12)) x5 x6 r q := by
  refine (four lane (fun u => k0_pay29 (k0_pay7 (View.ld x5 r0_3)) (k0_pay7 (View.ld x6 r0_3)) u k0_pay26 k0_pay27 k0_pay28)
    (k0_pay14 (F := Ideal) (k0_pay5 (View.ld x0 r0_0) (View.ld x1 r0_1)) (View.ld x2 r0_12)) _ _ (fun u r l => pay29_at _ _ u r l) r q).trans ?_
  rw [ld0, ld1, ld3, ld3, cast_eq, cast_eq]

/-- Result 11: columns 2048 to 2559 of the projected rows, rotated. -/
theorem out11 (hs) : (dats m 0 c).arrAt 11 (cfgs 0).N = (refB 2048 hs (Z m c) (Host.cos timeB) (Host.sin timeB)) := by
  refine (dats m 0 c).arrAt_eq_of_covers 11 (refB 2048 hs (Z m c) (Host.cos timeB) (Host.sin timeB)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_11]
  refine ((block11 _ _ _ _ _ _ _ r q).trans (rotatedB m c t 2048 _ hs (by omega) r q)).trans (congrArg (refB 2048 hs (Z m c) (Host.cos timeB) (Host.sin timeB)) ?_)
  blk_ext [idx t]

/-- Result 12's block. -/
theorem block12 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_12 (F := Ideal) x0 x1 x2 x3 x4 x5 x6 (ix2 r q)
      = k0_pay14 (F := Ideal) (k0_pay5 x0 x1) (View.ld x2 r0_13) (ix2 r q) := by
  refine (congrFun (View.canon_unit_zero (S := S8x512) (Val := Elt Ideal) (e := .f32) (off := ![0, 0]) (by funext a; fin_cases a <;> rfl) _
    (k0_pay14 (F := Ideal) (k0_pay5 (View.ld x0 r0_0) (View.ld x1 r0_1)) (View.ld x2 r0_13))) (ix2 r q)).trans ?_
  rw [ld0, ld1]

/-- Result 12: columns 2560 to 3071 of the projected rows. -/
theorem out12 (hs) : (dats m 0 c).arrAt 12 (cfgs 0).N
      = (refP 2560 hs (Z m c)) := by
  refine (dats m 0 c).arrAt_eq_of_covers 12 (refP 2560 hs (Z m c)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_12]
  refine (block12 _ _ _ _ _ _ _ r q).trans ?_
  refine (plain_eq m c t 2560 _ hs (by omega) r q).trans (congrArg (refP 2560 hs (Z m c)) ?_)
  blk_ext [idx t]

/-- Result 13's block. -/
theorem block13 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_13 (F := Ideal) x0 x1 x2 x3 x4 x5 x6 (ix2 r q)
      = k0_pay14 (F := Ideal) (k0_pay5 x0 x1) (View.ld x2 r0_14) (ix2 r q) := by
  refine (congrFun (View.canon_unit_zero (S := S8x512) (Val := Elt Ideal) (e := .f32) (off := ![0, 0]) (by funext a; fin_cases a <;> rfl) _
    (k0_pay14 (F := Ideal) (k0_pay5 (View.ld x0 r0_0) (View.ld x1 r0_1)) (View.ld x2 r0_14))) (ix2 r q)).trans ?_
  rw [ld0, ld1]

/-- Result 13: columns 3072 to 3583 of the projected rows. -/
theorem out13 (hs) : (dats m 0 c).arrAt 13 (cfgs 0).N
      = (refP 3072 hs (Z m c)) := by
  refine (dats m 0 c).arrAt_eq_of_covers 13 (refP 3072 hs (Z m c)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_13]
  refine (block13 _ _ _ _ _ _ _ r q).trans ?_
  refine (plain_eq m c t 3072 _ hs (by omega) r q).trans (congrArg (refP 3072 hs (Z m c)) ?_)
  blk_ext [idx t]

/-- Result 14's block. -/
theorem block14 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_14 (F := Ideal) x0 x1 x2 x3 x4 x5 x6 (ix2 r q)
      = k0_pay14 (F := Ideal) (k0_pay5 x0 x1) (View.ld x2 r0_15) (ix2 r q) := by
  refine (congrFun (View.canon_unit_zero (S := S8x512) (Val := Elt Ideal) (e := .f32) (off := ![0, 0]) (by funext a; fin_cases a <;> rfl) _
    (k0_pay14 (F := Ideal) (k0_pay5 (View.ld x0 r0_0) (View.ld x1 r0_1)) (View.ld x2 r0_15))) (ix2 r q)).trans ?_
  rw [ld0, ld1]

/-- Result 14: columns 3584 to 4095 of the projected rows. -/
theorem out14 (hs) : (dats m 0 c).arrAt 14 (cfgs 0).N
      = (refP 3584 hs (Z m c)) := by
  refine (dats m 0 c).arrAt_eq_of_covers 14 (refP 3584 hs (Z m c)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_14]
  refine (block14 _ _ _ _ _ _ _ r q).trans ?_
  refine (plain_eq m c t 3584 _ hs (by omega) r q).trans (congrArg (refP 3584 hs (Z m c)) ?_)
  blk_ext [idx t]

/-- Result 15's block. -/
theorem block15 (x0 : Vec Ideal S8x2048 .f32) (x1 : Vec Ideal S1x2048 .f32) (x2 : Vec Ideal S2048x4608 .bf16)
    (x3 x4 x5 x6 : Vec Ideal S8x128 .f32) (r : Fin 8) (q : Fin 512) :
    out0_15 (F := Ideal) x0 x1 x2 x3 x4 x5 x6 (ix2 r q)
      = k0_pay14 (F := Ideal) (k0_pay5 x0 x1) (View.ld x2 r0_16) (ix2 r q) := by
  refine (congrFun (View.canon_unit_zero (S := S8x512) (Val := Elt Ideal) (e := .f32) (off := ![0, 0]) (by funext a; fin_cases a <;> rfl) _
    (k0_pay14 (F := Ideal) (k0_pay5 (View.ld x0 r0_0) (View.ld x1 r0_1)) (View.ld x2 r0_16))) (ix2 r q)).trans ?_
  rw [ld0, ld1]

/-- Result 15: columns 4096 to 4607 of the projected rows. -/
theorem out15 (hs) : (dats m 0 c).arrAt 15 (cfgs 0).N
      = (refP 4096 hs (Z m c)) := by
  refine (dats m 0 c).arrAt_eq_of_covers 15 (refP 4096 hs (Z m c)) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_15]
  refine (block15 _ _ _ _ _ _ _ r q).trans ?_
  refine (plain_eq m c t 4096 _ hs (by omega) r q).trans (congrArg (refP 4096 hs (Z m c)) ?_)
  blk_ext [idx t]

end Kernel

open Cert.ProjSRefIdeal.Value in
/-- The reference's projected rows are `refZ` of its arguments. -/
theorem ref16 (m' : (ℓ : Loc ProjSRefIdeal.nD ProjSRefIdeal.τ ProjSRefIdeal.sig) → Buf (Elt Ideal) ℓ) (c : Dev ProjSRefIdeal.nD) :
    res_main_v16 (StableHlo.launchContents m' c) = refZ (m' (c.tc.loc ProjSRefIdeal.main_arg0)) (m' (c.tc.loc ProjSRefIdeal.main_arg1))
      (m' (c.tc.loc ProjSRefIdeal.main_arg2)) := rfl

/-- The gate's two halves are the reference's, sliced twice. -/
theorem twice (o : ℕ) (ho : ProjSRefIdeal.S8x1x1024.Slices ![0, 0, o] ProjSRefIdeal.S8x1x512)
    (hs : ProjSRefIdeal.S8x1x4608.Slices ![0, 0, 3072 + o] ProjSRefIdeal.S8x1x512) (h2 : o + 512 ≤ 1024)
    (z : FVec Ideal ProjSRefIdeal.S8x1x4608 .f32) :
    shapeCast (α := EReal) ProjSRefIdeal.S8x512 (extractStridedSlice ProjSRefIdeal.S8x1x512 ![0, 0, o]
      (extractStridedSlice ProjSRefIdeal.S8x1x1024 ![0, 0, 3072] z ProjSRefIdeal.Gen.slices_S8x1x4608_S8x1x1024_0_0_3072) ho)
      ProjSRefIdeal.Gen.shapeCasts_S8x1x512_S8x512 = refP (3072 + o) hs z := by
  funext y
  obtain ⟨r, q, rfl⟩ : ∃ (r : Fin 8) (q : Fin 512), y = ix2 r q := ⟨y 0, y 1, eq_ix2 (n0 := 8) (n1 := 512) y⟩
  rw [refP, plain_at _ _ _ (by omega)]
  pointwise [add_assoc]

set_option maxHeartbeats 1600000 in
open Cert.ProjSRefIdeal.Value Cert.ProjSRefIdeal.Gen in
/-- The kernel's results at the extended reals are the reference's, element by element. -/
theorem algebraic : Cert.algebraic_ProjSIdeal_ProjSRefIdeal := by
  intro m g m' g' _ hagree
  refine ⟨fun c => (dats m 0 c).arrAt 7 (cfgs 0).N, fun c => (dats m 0 c).arrAt 8 (cfgs 0).N,
    fun c => (dats m 0 c).arrAt 9 (cfgs 0).N, fun c => (dats m 0 c).arrAt 10 (cfgs 0).N,
    fun c => (dats m 0 c).arrAt 11 (cfgs 0).N, fun c => (dats m 0 c).arrAt 12 (cfgs 0).N,
    fun c => (dats m 0 c).arrAt 13 (cfgs 0).N, fun c => (dats m 0 c).arrAt 14 (cfgs 0).N,
    fun c => (dats m 0 c).arrAt 15 (cfgs 0).N, ?_, ?_⟩
  · refine θ_run_mono (θ_run_and (Cert.ProjSIdeal.Gen.run_main m g) (Cert.ProjSIdeal.Gen.frame m g)) ?_
    intro r hr c
    have h := (hr.1 c).1
    exact ⟨h 7, h 8, h 9, h 10, h 11, h 12, h 13, h 14, h 15, hr.2.1 c⟩
  · refine θ_run_mono (Cert.ProjSRefIdeal.Value.run m' g') ?_
    intro r hr c
    have eZ : res_main_v16 (StableHlo.launchContents m' c) = Z m c := by
      rw [ref16, (hagree c).1, (hagree c).2.1, (hagree c).2.2]; rfl
    obtain ⟨h0, h1, h2, h3, h4, h5, h6, h7, h8, ha⟩ := hr c
    refine ⟨h0.trans (Eq.symm ?_), h1.trans (Eq.symm ?_), h2.trans (Eq.symm ?_), h3.trans (Eq.symm ?_), h4.trans (Eq.symm ?_),
      h5.trans (Eq.symm ?_), h6.trans (Eq.symm ?_), h7.trans (Eq.symm ?_), h8.trans (Eq.symm ?_), ha⟩
    · refine (out7 m c slices_S8x1x4608_S8x1x512_0_0_0).trans ?_; rw [← eZ]; rfl
    · refine (out8 m c slices_S8x1x4608_S8x1x512_0_0_512).trans ?_; rw [← eZ]; rfl
    · refine (out9 m c slices_S8x1x4608_S8x1x512_0_0_1024).trans ?_; rw [← eZ]; rfl
    · refine (out10 m c slices_S8x1x4608_S8x1x512_0_0_1536).trans ?_; rw [← eZ]; rfl
    · refine (out11 m c slices_S8x1x4608_S8x1x512_0_0_2048).trans ?_; rw [← eZ]; rfl
    · refine (out12 m c slices_S8x1x4608_S8x1x512_0_0_2560).trans ?_; rw [← eZ]; rfl
    · refine (out13 m c (by decide)).trans ?_; rw [← eZ]; exact (twice 0 _ _ (by omega) _).symm
    · refine (out14 m c (by decide)).trans ?_; rw [← eZ]; exact (twice 512 _ _ (by omega) _).symm
    · refine (out15 m c slices_S8x1x4608_S8x1x512_0_0_4096).trans ?_; rw [← eZ]; rfl

end Cert.Proof.ProjSClaims

end
-- ==== Proof.NormS.lean ====
/- The claims about the final normalisation call of the sampled token: its frames, and that at the extended reals it computes the
   reference's rmsnorm. Hand-written, untrusted. -/
module

public import proofs.«01_k».proof.Defs
public import proofs.«01_k».proof.Proof.Gen.NormS.Frame
public import proofs.«01_k».proof.Proof.Gen.NormSIdeal.Frame
public import proofs.«01_k».proof.Proof.Gen.NormSRefIdeal.Run
public import proofs.«01_k».proof.Proof.Norm
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.NormSClaims

open Cert.Proof.NormClaims (normAt)

/-- The kernel leaves its arguments alone and its counters at zero, on words. -/
theorem frame_p : Cert.quiescent_NormS := fun m ρ _ => Cert.NormS.Gen.frame m ρ
/-- The same, of the kernel read at the extended reals. -/
theorem frame_pi : Cert.quiescent_NormSIdeal := fun m ρ _ => Cert.NormSIdeal.Gen.frame m ρ
/-- The reference leaves its arguments alone; it has no counter. -/
theorem frame_ri : Cert.quiescent_NormSRefIdeal := fun m ρ _ =>
  (θ_run Cert.NormSRefIdeal.defs _ _).mono (fun r h => ⟨fun c => (h c).2,
      Idealize.ShloMosaic.sem_eq_zero_of_no_sems (by decide) r.2⟩)
    (Cert.NormSRefIdeal.Value.run (F := Ideal) m ρ)
/-- Nothing was rewritten on the way to the extended reals. -/
theorem preserves : Cert.preserves_NormS_NormSIdeal := trivial

open Cert.NormSIdeal Cert.NormSIdeal.Gen in
/-- Each window's block at the grid's one point: all the rows, the whole gain. -/
theorem idx : ∀ t : Fin cfg0.N, win0_0.index t = ![0, 0] ∧ win0_1.index t = ![0, 0]
    ∧ win0_2.index t = ![0, 0] :=
  (by decide +kernel : ∀ t : Fin grid0.N, _)

open Cert.NormSIdeal Cert.NormSIdeal.Gen in
/-- The reference's result as a function of its two arguments. -/
def refTerm (x : FVec Ideal NormSRefIdeal.S8x1x2048 .f32) (g : FVec Ideal NormSRefIdeal.S2048 .f32) :
    FVec Ideal NormSRefIdeal.S8x2048 .f32 :=
  shapeCast NormSRefIdeal.S8x2048
      (mulf
        (mulf x
          (broadcastInDim NormSRefIdeal.S8x1x2048 ![0, 1, 2] NormSRefIdeal.Gen.bcast_S8x1x1_S8x1x2048_0_1_2
            (Host.rsqrt
              (addf
                (Host.divf
                  (broadcastInDim NormSRefIdeal.S8x1x1 ![0, 1] NormSRefIdeal.Gen.bcast_S8x1_S8x1x1_0_1
                    (Host.reduceAdd (mulf x x)
                      (constant NormSRefIdeal.S_ FTy.f32 0#32) NormSRefIdeal.Gen.reducesTo_S8x1x2048_S8x1_d2
                      NormSRefIdeal.Gen.h_S_))
                  (broadcastInDim NormSRefIdeal.S8x1x1 ![] NormSRefIdeal.Gen.bcast_S_S8x1x1
                    (constant NormSRefIdeal.S_ FTy.f32 1157627904#32)))
                (broadcastInDim NormSRefIdeal.S8x1x1 ![] NormSRefIdeal.Gen.bcast_S_S8x1x1
                  (constant NormSRefIdeal.S_ FTy.f32 897988541#32))))))
        (broadcastInDim NormSRefIdeal.S8x1x2048 ![0, 1, 2] NormSRefIdeal.Gen.bcast_S1x1x2048_S8x1x2048_0_1_2
          (broadcastInDim NormSRefIdeal.S1x1x2048 ![2] NormSRefIdeal.Gen.bcast_S2048_S1x1x2048_2 g)))
      NormSRefIdeal.Gen.shapeCasts_S8x1x2048_S8x2048

open Cert.NormSIdeal Cert.NormSIdeal.Gen in
/-- What the body stores, at an index: the element of that row, normalised. -/
theorem pay_at (x : FVec Ideal S8x2048 .f32) (g : FVec Ideal S1x2048 .f32) (y : S8x2048.Idx) :
    k0_pay1 (F := Ideal) x g y = normAt (fun k => x (ix2 (y 0) k)) (y 1) (g (ix2 0 (y 1))) := by
  pointwise [k0_pay1, normAt]

/-- The reference at an index: the same element of the same row. -/
theorem ref_at (x : FVec Ideal NormSRefIdeal.S8x1x2048 .f32) (g : FVec Ideal NormSRefIdeal.S2048 .f32)
    (y : NormSRefIdeal.S8x2048.Idx) :
    refTerm x g y = normAt (fun k => shapeCast (α := EReal) NormSRefIdeal.S8x2048 x
      NormSRefIdeal.Gen.shapeCasts_S8x1x2048_S8x2048 (ix2 (y 0) k)) (y 1) (g (ix1 (y 1))) := by
  pointwise [refTerm, normAt]

open Cert.NormSIdeal Cert.NormSIdeal.Gen in
set_option maxHeartbeats 1600000 in
/-- The kernel's result at the extended reals is the reference's, element by element. -/
theorem algebraic : Cert.algebraic_NormSIdeal_NormSRefIdeal := by
  pair_intro
  · run_from Cert.NormSIdeal.Gen.run_main m g
  · run_from Cert.NormSRefIdeal.Value.run m' g'
    symm
    refine (Cert.NormSIdeal.Gen.dats m 0 c).arrAt_eq_of_covers 2 (refTerm (m (c.tc.loc main_arg0)) (m (c.tc.loc main_arg1))) (by decide +kernel) fun t _ y => ?_
    blk_simp
    rw [after0_2]
    frame_out
    rw [pay_at, ref_at]
    blk_point [iblk, V, idx t, normAt]

end Cert.Proof.NormSClaims

end
-- ==== Proof.Smix.lean ====
/- The claims about the samples' mixing call: its frames, and that at the extended reals it computes the
   reference's gated values, its step of the recurrence and its gated output of it. Hand-written, untrusted. -/
module

public import proofs.«01_k».proof.Defs
public import proofs.«01_k».proof.Proof.Gen.Smix.Frame
public import proofs.«01_k».proof.Proof.Gen.SmixIdeal.Frame
public import proofs.«01_k».proof.Proof.Gen.SmixRefIdeal.Run
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.SmixClaims

/-- The kernel leaves its arguments alone and its counters at zero, on words. -/
theorem frame_p : Cert.quiescent_Smix := fun m ρ _ => Cert.Smix.Gen.frame m ρ
/-- The same, of the kernel read at the extended reals. -/
theorem frame_pi : Cert.quiescent_SmixIdeal := fun m ρ _ => Cert.SmixIdeal.Gen.frame m ρ
/-- The reference leaves its arguments alone; it has no counter. -/
theorem frame_ri : Cert.quiescent_SmixRefIdeal := fun m ρ _ =>
  (θ_run Cert.SmixRefIdeal.defs _ _).mono (fun r h => ⟨fun c => (h c).2.2.2.2,
      Idealize.ShloMosaic.sem_eq_zero_of_no_sems (by decide) r.2⟩)
    (Cert.SmixRefIdeal.Value.run (F := Ideal) m ρ)
/-- Nothing was rewritten on the way to the extended reals. -/
theorem preserves : Cert.preserves_Smix_SmixIdeal := trivial

/-- The Gaussian error linear unit at a number, by the error function. -/
def geluAt (x : EReal) : EReal :=
  Ideal.ofBits FTy.f32 0x3F000000#32 * x * (1 + Ideal.erf (x * Ideal.ofBits FTy.f32 0x3F3504F3#32))

/-- The same by the complementary error function. -/
theorem gelu_erfc (x : EReal) :
    Ideal.ofBits FTy.f32 0x3F000000#32 * x * Ideal.erfc (-x * Ideal.ofBits FTy.f32 0x3F3504F3#32) = geluAt x := by
  rw [geluAt, EReal.neg_mul, Ideal.erfc_neg]

/-- The library's error function at the extended reals, by its own name. -/
theorem erf_eq (x : EReal) : FloatOps.erf (F := Ideal) (φ := .f32) x = Ideal.erf x := rfl

/-- The mean of a row of 512. -/
def meanOf (row : Fin 512 → EReal) : EReal := Ideal.div (∑ k, row k) (Ideal.ofBits FTy.f32 0x44000000#32)

/-- One element of a row normalised by mean and variance, with gain `g` and offset `b`. -/
def lnAt (row : Fin 512 → EReal) (j : Fin 512) (g b : EReal) : EReal :=
  (row j - meanOf row) * Ideal.rsqrt (meanOf (fun k => (row k - meanOf row) * (row k - meanOf row))
    + Ideal.ofBits FTy.f32 0x3727C5AC#32) * g + b

/-- A sum over `G` groups of `C` against one group's indicator is the sum over that group. -/
theorem diag_sum {G C N : ℕ} (hN : G * C = N) (hC : 0 < C) (g : Fin G) (u : Fin N → EReal) (b : Fin G → Fin C → EReal) :
    ∑ k : Fin N, u k * (b ⟨k.val / C, by rw [Nat.div_lt_iff_lt_mul hC, hN]; exact k.isLt⟩ ⟨k.val % C, Nat.mod_lt _ hC⟩
        * if k.val / C = g.val then 1 else 0)
      = ∑ c : Fin C, u ⟨g.val * C + c.val, by
          have := Nat.mul_le_mul_right C (Nat.succ_le_of_lt g.isLt); rw [Nat.succ_mul] at this
          have := c.isLt; omega⟩ * b g c := by
  subst hN
  rw [← finProdFinEquiv.sum_comp, Fintype.sum_prod_type, Finset.sum_eq_single g]
  · refine Finset.sum_congr rfl fun c _ => ?_
    have e1 : (finProdFinEquiv (g, c)).val / C = g.val := by
      simp [finProdFinEquiv, Nat.add_mul_div_left _ _ hC, Nat.div_eq_of_lt c.isLt]
    have e2 : (finProdFinEquiv (g, c)).val % C = c.val := by
      simp [finProdFinEquiv, Nat.mod_eq_of_lt c.isLt]
    have e3 : (finProdFinEquiv (g, c)).val = g.val * C + c.val := by
      simp [finProdFinEquiv]; ring
    have e4 : finProdFinEquiv (g, c) = ⟨g.val * C + c.val, e3 ▸ (finProdFinEquiv (g, c)).isLt⟩ := Fin.ext e3
    simp only [e1, e2, if_true, mul_one]
    exact congrArg (fun k => u k * b g c) e4
  · intro g' _ hg
    refine Finset.sum_eq_zero fun c _ => ?_
    have e1 : (finProdFinEquiv (g', c)).val / C = g'.val := by
      simp [finProdFinEquiv, Nat.add_mul_div_left _ _ hC, Nat.div_eq_of_lt c.isLt]
    rw [if_neg (by rw [e1]; exact fun h => hg (Fin.ext h)), mul_zero, mul_zero]
  · intro h; exact absurd (Finset.mem_univ g) h

/-- One element of the gated output: the row `y` gated by the logistic function of its product with `w`. -/
def gluAt (y : Fin 512 → EReal) (w : Fin 512 → EReal) (b : EReal) (q : Fin 512) : EReal :=
  y q * Ideal.div 1 (1 + Ideal.exp (-(∑ k, y k * w k + b)))

section Reference

open Cert.SmixRefIdeal Cert.SmixRefIdeal.Gen

/-- The reference's Gaussian error linear unit of the samples' rows. -/
def refU (x : FVec Ideal S8x1x512 .f32) : FVec Ideal S8x1x512 .f32 :=
  mulf (mulf (broadcastInDim S8x1x512 ![] bcast_S_S8x1x512 (constant S_ .f32 0x3F000000#32)) x)
    (Host.erfc (mulf (Host.negf x) (broadcastInDim S8x1x512 ![] bcast_S_S8x1x512 (constant S_ .f32 0x3F3504F3#32))))

/-- That, at an index. -/
theorem refU_at (x : FVec Ideal S8x1x512 .f32) (r : Fin 8) (q : Fin 512) :
    refU x (ix3 r 0 q) = geluAt (x (ix3 r 0 q)) := by
  rw [← gelu_erfc]
  pointwise [refU]

/-- The reference's mean of each row. -/
def refM (x : FVec Ideal S8x1x512 .f32) : FVec Ideal S8x1x1 .f32 :=
  Host.divf (broadcastInDim S8x1x1 ![0, 1] bcast_S8x1_S8x1x1_0_1 (Host.reduceAdd x (constant S_ .f32 0x00000000#32) reducesTo_S8x1x512_S8x1_d2 h_S_)) (broadcastInDim S8x1x1 ![] bcast_S_S8x1x1 (constant S_ .f32 0x44000000#32))

/-- The rows less their means. -/
def refD (x : FVec Ideal S8x1x512 .f32) : FVec Ideal S8x1x512 .f32 :=
  subf x (broadcastInDim S8x1x512 ![0, 1, 2] bcast_S8x1x1_S8x1x512_0_1_2 (refM x))

/-- The reference's normalised values. -/
def refV (u : FVec Ideal S8x1x512 .f32) (lg lb : FVec Ideal S512 .f32) : FVec Ideal S8x1x512 .f32 :=
  addf (mulf (mulf (refD u) (broadcastInDim S8x1x512 ![0, 1, 2] bcast_S8x1x1_S8x1x512_0_1_2
      (Host.rsqrt (addf (refM (mulf (refD u) (refD u))) (broadcastInDim S8x1x1 ![] bcast_S_S8x1x1 (constant S_ .f32 0x3727C5AC#32))))))
      (broadcastInDim S8x1x512 ![0, 1, 2] bcast_S1x1x512_S8x1x512_0_1_2 (broadcastInDim S1x1x512 ![2] bcast_S512_S1x1x512_2 lg)))
    (broadcastInDim S8x1x512 ![0, 1, 2] bcast_S1x1x512_S8x1x512_0_1_2 (broadcastInDim S1x1x512 ![2] bcast_S512_S1x1x512_2 lb))

/-- Those, at an index. -/
theorem refV_at (u : FVec Ideal S8x1x512 .f32) (lg lb : FVec Ideal S512 .f32) (r : Fin 8) (q : Fin 512) :
    refV u lg lb (ix3 r 0 q) = lnAt (fun k => u (ix3 r 0 k)) q (lg (ix1 q)) (lb (ix1 q)) := by
  pointwise [refV, refD, refM, lnAt, meanOf]

/-- The reference's second result. -/
def refV2 (v : FVec Ideal S8x1x512 .f32) : FVec Ideal S8x512 .f32 := shapeCast _ v shapeCasts_S8x1x512_S8x512

/-- That, at an index. -/
theorem refV2_at (v : FVec Ideal S8x1x512 .f32) (r : Fin 8) (q : Fin 512) : refV2 v (ix2 r q) = v (ix3 r 0 q) := by
  pointwise [refV2]

/-- The reference's mask of a single time step, of ones below the diagonal. -/
def refTril : IVec S1x1 1 :=
  select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1))

/-- It is one. -/
theorem refTril_at : refTril (ix2 0 0) = 1#1 := by decide +kernel

/-- The reference's gating weights: the groups' first, under the mask. -/
def refW (ws : FVec Ideal S4x128x128 .f32) : FVec Ideal S4x1x1 .f32 :=
  select (broadcastInDim S4x1x1 ![0, 1, 2] bcast_S1x1x1_S4x1x1_0_1_2 (broadcastInDim S1x1x1 ![1, 2] bcast_S1x1_S1x1x1_1_2 refTril)) (extractStridedSlice S4x1x1 ![0, 0, 0] ws slices_S4x128x128_S4x1x1_0_0_0) (broadcastInDim S4x1x1 ![] bcast_S_S4x1x1 (id (constant S_ .f32 0x00000000#32)))

/-- Those, at an index. -/
theorem refW_at (ws : FVec Ideal S4x128x128 .f32) (g : Fin 4) : refW ws (ix3 g 0 0) = ws (ix3 g 0 0) := by
  pointwise [refW, refTril_at]

/-- The reference's first result. -/
def refC (u v : FVec Ideal S8x1x512 .f32) (w : FVec Ideal S4x1x1 .f32) (bs : FVec Ideal S4x128 .f32) : FVec Ideal S8x512 .bf16 :=
  truncf .bf16 (shapeCast _ (mulf u (shapeCast _ (addf (transpose S8x1x1x4x128 [1, 2, 4, 0, 3] (Host.dotGeneral dot_S8x1x1x4x128_S4x1x1_S4x8x1x128x1_2_2_014_1_3_0 none (shapeCast _ v shapeCasts_S8x1x512_S8x1x1x4x128) w) transposes_S4x8x1x128x1_S8x1x1x4x128_1_2_4_0_3) (broadcastInDim S8x1x1x4x128 ![0, 1, 2, 3, 4] bcast_S1x1x1x4x1_S8x1x1x4x128_0_1_2_3_4 (broadcastInDim S1x1x1x4x1 ![2, 3] bcast_S1x4_S1x1x1x4x1_2_3 (transpose S1x4 [1, 0] (extractStridedSlice S4x1 ![0, 0] bs slices_S4x128_S4x1_0_0) transposes_S4x1_S1x4_1_0)))) shapeCasts_S8x1x1x4x128_S8x1x512)) shapeCasts_S8x1x512_S8x512) bitsLt_bf16_f32

/-- That, at an index. -/
theorem refC_at (u v : FVec Ideal S8x1x512 .f32) (w : FVec Ideal S4x1x1 .f32) (bs : FVec Ideal S4x128 .f32) (r : Fin 8) (q : Fin 512) :
    refC u v w bs (ix2 r q) = u (ix3 r 0 q) * (v (ix3 r 0 q) * w (ix3 ⟨q.val / 128, by omega⟩ 0 0) + bs (ix2 ⟨q.val / 128, by omega⟩ 0)) := by
  pointwise [refC]
  rw [Fin.sum_univ_one]

/-- The samples' inputs in groups of 16. -/
def refUg (du : FVec Ideal S8x1x512 .f32) : FVec Ideal S8x32x16 .f32 := shapeCast _ du shapeCasts_S8x1x512_S8x32x16

/-- The state's real part. -/
def refHre (st : FVec Ideal S8x32x64x2 .f32) : FVec Ideal S8x32x64 .f32 :=
  shapeCast _ (extractStridedSlice S8x32x64x1 ![0, 0, 0, 0] st slices_S8x32x64x2_S8x32x64x1_0_0_0_0) shapeCasts_S8x32x64x1_S8x32x64

/-- The state's imaginary part. -/
def refHim (st : FVec Ideal S8x32x64x2 .f32) : FVec Ideal S8x32x64 .f32 :=
  shapeCast _ (extractStridedSlice S8x32x64x1 ![0, 0, 0, 1] st slices_S8x32x64x2_S8x32x64x1_0_0_0_1) shapeCasts_S8x32x64x1_S8x32x64

/-- The new state's real part. -/
def refNre (du : FVec Ideal S8x1x512 .f32) (st : FVec Ideal S8x32x64x2 .f32) (are aim : FVec Ideal S32x64 .f32)
    (bre : FVec Ideal S32x64x16 .f32) : FVec Ideal S8x32x64 .f32 :=
  addf (subf (mulf (broadcastInDim S8x32x64 ![0, 1, 2] bcast_S1x32x64_S8x32x64_0_1_2 (broadcastInDim S1x32x64 ![1, 2] bcast_S32x64_S1x32x64_1_2 are)) (refHre st)) (mulf (broadcastInDim S8x32x64 ![0, 1, 2] bcast_S1x32x64_S8x32x64_0_1_2 (broadcastInDim S1x32x64 ![1, 2] bcast_S32x64_S1x32x64_1_2 aim)) (refHim st))) (Host.reduceAdd (mulf (broadcastInDim S8x32x64x16 ![0, 1, 2, 3] bcast_S1x32x64x16_S8x32x64x16_0_1_2_3 (broadcastInDim S1x32x64x16 ![1, 2, 3] bcast_S32x64x16_S1x32x64x16_1_2_3 bre)) (broadcastInDim S8x32x64x16 ![0, 1, 2, 3] bcast_S8x32x1x16_S8x32x64x16_0_1_2_3 (broadcastInDim S8x32x1x16 ![0, 1, 3] bcast_S8x32x16_S8x32x1x16_0_1_3 (refUg du)))) (constant S_ .f32 0x00000000#32) reducesTo_S8x32x64x16_S8x32x64_d3 h_S_)

/-- The new state's imaginary part. -/
def refNim (du : FVec Ideal S8x1x512 .f32) (st : FVec Ideal S8x32x64x2 .f32) (are aim : FVec Ideal S32x64 .f32)
    (bim : FVec Ideal S32x64x16 .f32) : FVec Ideal S8x32x64 .f32 :=
  addf (addf (mulf (broadcastInDim S8x32x64 ![0, 1, 2] bcast_S1x32x64_S8x32x64_0_1_2 (broadcastInDim S1x32x64 ![1, 2] bcast_S32x64_S1x32x64_1_2 are)) (refHim st)) (mulf (broadcastInDim S8x32x64 ![0, 1, 2] bcast_S1x32x64_S8x32x64_0_1_2 (broadcastInDim S1x32x64 ![1, 2] bcast_S32x64_S1x32x64_1_2 aim)) (refHre st))) (Host.reduceAdd (mulf (broadcastInDim S8x32x64x16 ![0, 1, 2, 3] bcast_S1x32x64x16_S8x32x64x16_0_1_2_3 (broadcastInDim S1x32x64x16 ![1, 2, 3] bcast_S32x64x16_S1x32x64x16_1_2_3 bim)) (broadcastInDim S8x32x64x16 ![0, 1, 2, 3] bcast_S8x32x1x16_S8x32x64x16_0_1_2_3 (broadcastInDim S8x32x1x16 ![0, 1, 3] bcast_S8x32x16_S8x32x1x16_0_1_3 (refUg du)))) (constant S_ .f32 0x00000000#32) reducesTo_S8x32x64x16_S8x32x64_d3 h_S_)

/-- The new state's real part, at an index. -/
theorem refNre_at (du : FVec Ideal S8x1x512 .f32) (st : FVec Ideal S8x32x64x2 .f32) (are aim : FVec Ideal S32x64 .f32)
    (bre : FVec Ideal S32x64x16 .f32) (r : Fin 8) (g : Fin 32) (s : Fin 64) :
    refNre du st are aim bre (ix3 r g s) = are (ix2 g s) * st (ix4 r g s 0) - aim (ix2 g s) * st (ix4 r g s 1)
      + ∑ k : Fin 16, bre (ix3 g s k) * du (ix3 r 0 ⟨g.val * 16 + k.val, by omega⟩) := by
  pointwise [refNre, refHre, refHim, refUg]

/-- The new state's imaginary part, at an index. -/
theorem refNim_at (du : FVec Ideal S8x1x512 .f32) (st : FVec Ideal S8x32x64x2 .f32) (are aim : FVec Ideal S32x64 .f32)
    (bim : FVec Ideal S32x64x16 .f32) (r : Fin 8) (g : Fin 32) (s : Fin 64) :
    refNim du st are aim bim (ix3 r g s) = are (ix2 g s) * st (ix4 r g s 1) + aim (ix2 g s) * st (ix4 r g s 0)
      + ∑ k : Fin 16, bim (ix3 g s k) * du (ix3 r 0 ⟨g.val * 16 + k.val, by omega⟩) := by
  pointwise [refNim, refHre, refHim, refUg]

/-- The reference's fourth result: the new state, its real part beside its imaginary part. -/
def refH (nre nim : FVec Ideal S8x32x64 .f32) : FVec Ideal S8x4096 .f32 :=
  concatenate S8x4096 1 [⟨S8x2048, (shapeCast _ nre shapeCasts_S8x32x64_S8x2048)⟩, ⟨S8x2048, (shapeCast _ nim shapeCasts_S8x32x64_S8x2048)⟩] concatenates_S8x2048_S8x2048_S8x4096_d1

/-- The real half, at an index. -/
theorem refH_lo (nre nim : FVec Ideal S8x32x64 .f32) (r : Fin 8) (p : Fin 2048) :
    refH nre nim (ix2 r ⟨p.val, by omega⟩) = nre (ix3 r ⟨p.val / 64, by omega⟩ ⟨p.val % 64, by omega⟩) := by
  pointwise [refH]

/-- The imaginary half, at an index. -/
theorem refH_hi (nre nim : FVec Ideal S8x32x64 .f32) (r : Fin 8) (p : Fin 2048) :
    refH nre nim (ix2 r ⟨2048 + p.val, by omega⟩) = nim (ix3 r ⟨p.val / 64, by omega⟩ ⟨p.val % 64, by omega⟩) := by
  pointwise [refH]

/-- The recurrence's output from the new state. -/
def refY (nre nim : FVec Ideal S8x32x64 .f32) (cre cim : FVec Ideal S32x16x64 .f32) (dsk : FVec Ideal S512 .f32)
    (du : FVec Ideal S8x1x512 .f32) : FVec Ideal S8x512 .f32 :=
  shapeCast _ (addf (Host.reduceAdd (subf (mulf (broadcastInDim S8x32x16x64 ![0, 1, 2, 3] bcast_S1x32x16x64_S8x32x16x64_0_1_2_3 (broadcastInDim S1x32x16x64 ![1, 2, 3] bcast_S32x16x64_S1x32x16x64_1_2_3 cre)) (broadcastInDim S8x32x16x64 ![0, 1, 2, 3] bcast_S8x32x1x64_S8x32x16x64_0_1_2_3 (broadcastInDim S8x32x1x64 ![0, 1, 3] bcast_S8x32x64_S8x32x1x64_0_1_3 nre))) (mulf (broadcastInDim S8x32x16x64 ![0, 1, 2, 3] bcast_S1x32x16x64_S8x32x16x64_0_1_2_3 (broadcastInDim S1x32x16x64 ![1, 2, 3] bcast_S32x16x64_S1x32x16x64_1_2_3 cim)) (broadcastInDim S8x32x16x64 ![0, 1, 2, 3] bcast_S8x32x1x64_S8x32x16x64_0_1_2_3 (broadcastInDim S8x32x1x64 ![0, 1, 3] bcast_S8x32x64_S8x32x1x64_0_1_3 nim)))) (constant S_ .f32 0x00000000#32) reducesTo_S8x32x16x64_S8x32x16_d3 h_S_) (mulf (broadcastInDim S8x32x16 ![0, 1, 2] bcast_S1x32x16_S8x32x16_0_1_2 (broadcastInDim S1x32x16 ![1, 2] bcast_S32x16_S1x32x16_1_2 (shapeCast _ dsk shapeCasts_S512_S32x16))) (refUg du))) shapeCasts_S8x32x16_S8x512

/-- That, at an index. -/
theorem refY_at (nre nim : FVec Ideal S8x32x64 .f32) (cre cim : FVec Ideal S32x16x64 .f32) (dsk : FVec Ideal S512 .f32)
    (du : FVec Ideal S8x1x512 .f32) (r : Fin 8) (q : Fin 512) :
    refY nre nim cre cim dsk du (ix2 r q)
      = ∑ s : Fin 64, (cre (ix3 ⟨q.val / 16, by omega⟩ ⟨q.val % 16, by omega⟩ s) * nre (ix3 r ⟨q.val / 16, by omega⟩ s)
          - cim (ix3 ⟨q.val / 16, by omega⟩ ⟨q.val % 16, by omega⟩ s) * nim (ix3 r ⟨q.val / 16, by omega⟩ s))
        + dsk (ix1 q) * du (ix3 r 0 q) := by
  pointwise [refY, refUg]

/-- The reference's Gaussian error linear unit of that output. -/
def refG (y : FVec Ideal S8x512 .f32) : FVec Ideal S8x512 .f32 :=
  mulf (mulf (broadcastInDim S8x512 ![] bcast_S_S8x512 (constant S_ .f32 0x3F000000#32)) y) (Host.erfc (mulf (Host.negf y) (broadcastInDim S8x512 ![] bcast_S_S8x512 (constant S_ .f32 0x3F3504F3#32))))

/-- That, at an index. -/
theorem refG_at (y : FVec Ideal S8x512 .f32) (r : Fin 8) (q : Fin 512) : refG y (ix2 r q) = geluAt (y (ix2 r q)) := by
  rw [← gelu_erfc]
  pointwise [refG]

/-- The reference's third result from that. -/
def refO (y : FVec Ideal S8x512 .f32) (gw : FVec Ideal S512x512 .f32) (gb : FVec Ideal S512 .f32) : FVec Ideal S8x512 .bf16 :=
  truncf .bf16 (mulf y (Host.divf (broadcastInDim S8x512 ![] bcast_S_S8x512 (constant S_ .f32 0x3F800000#32)) (addf (broadcastInDim S8x512 ![] bcast_S_S8x512 (constant S_ .f32 0x3F800000#32)) (Host.exp (Host.negf (addf (Host.dotGeneral dot_S8x512_S512x512_S8x512_1_0_0_1_n_n none y gw) (broadcastInDim S8x512 ![0, 1] bcast_S1x512_S8x512_0_1 (broadcastInDim S1x512 ![1] bcast_S512_S1x512_1 gb)))))))) bitsLt_bf16_f32

/-- That, at an index. -/
theorem refO_at (y : FVec Ideal S8x512 .f32) (gw : FVec Ideal S512x512 .f32) (gb : FVec Ideal S512 .f32) (r : Fin 8) (q : Fin 512) :
    refO y gw gb (ix2 r q) = gluAt (fun k => y (ix2 r k)) (fun k => gw (ix2 k q)) (gb (ix1 q)) q := by
  pointwise [refO, gluAt]

end Reference

open Cert.SmixIdeal Cert.SmixIdeal.Gen

open Cert.SmixIdeal Cert.SmixIdeal.Gen

section Payloads

/-- The kernel's gated half, at an index. -/
theorem pay1_at (x : FVec Ideal S8x512 .f32) (r : Fin 8) (q : Fin 512) :
    k0_pay1 (F := Ideal) x (ix2 r q) = geluAt (x (ix2 r q)) := by
  pointwise [k0_pay1, geluAt, erf_eq]

/-- The kernel's normalised values, at an index. -/
theorem pay5_at (x : FVec Ideal S8x512 .f32) (g b : FVec Ideal S1x512 .f32) (r : Fin 8) (q : Fin 512) :
    k0_pay5 (F := Ideal) (k0_pay2 b) (k0_pay3 x) (k0_pay4 g) (ix2 r q)
      = lnAt (fun k => geluAt (x (ix2 r k))) q (g (ix2 0 q)) (b (ix2 0 q)) := by
  pointwise [k0_pay5, k0_pay2, k0_pay3, k0_pay4, lnAt, meanOf, geluAt, erf_eq]

/-- The kernel's first result, at an index. -/
theorem pay6_at (u v : FVec Ideal S8x512 .f32) (g b w o : FVec Ideal S1x512 .f32) (r : Fin 8) (q : Fin 512) :
    k0_pay6 (F := Ideal) (k0_pay1 u) (k0_pay2 b) (k0_pay3 v) (k0_pay4 g) w o (ix2 r q)
      = geluAt (u (ix2 r q)) * (lnAt (fun k => geluAt (v (ix2 r k))) q (g (ix2 0 q)) (b (ix2 0 q)) * w (ix2 0 q) + o (ix2 0 q)) := by
  rw [← pay1_at, ← pay5_at]
  pointwise [k0_pay6]

/-- The kernel's new state from its blocks, at an index of the real half. -/
theorem pay17_lo (d : FVec Ideal S8x512 .f32) (bm : FVec Ideal S512x4096 .f32) (st : FVec Ideal S8x4096 .f32)
    (ar ai : FVec Ideal S1x2048 .f32) (r : Fin 8) (p : Fin 2048) :
    k0_pay17 (F := Ideal) (k0_pay8 d bm) (k0_pay14 d bm st ar ai) (k0_pay15 st ar) (k0_pay16 st ai) (ix2 r ⟨p.val, by omega⟩)
      = ar (ix2 0 p) * st (ix2 r ⟨p.val, by omega⟩) - ai (ix2 0 p) * st (ix2 r ⟨2048 + p.val, by omega⟩)
        + ∑ k : Fin 512, d (ix2 r k) * bm (ix2 k ⟨p.val, by omega⟩) := by
  pointwise [k0_pay17, k0_pay8, k0_pay14, k0_pay15, k0_pay16, k0_pay7, k0_pay9, k0_pay10, k0_pay11, k0_pay12, k0_pay13]

/-- The same of the imaginary half. -/
theorem pay17_hi (d : FVec Ideal S8x512 .f32) (bm : FVec Ideal S512x4096 .f32) (st : FVec Ideal S8x4096 .f32)
    (ar ai : FVec Ideal S1x2048 .f32) (r : Fin 8) (p : Fin 2048) :
    k0_pay17 (F := Ideal) (k0_pay8 d bm) (k0_pay14 d bm st ar ai) (k0_pay15 st ar) (k0_pay16 st ai) (ix2 r ⟨2048 + p.val, by omega⟩)
      = ar (ix2 0 p) * st (ix2 r ⟨2048 + p.val, by omega⟩) + ai (ix2 0 p) * st (ix2 r ⟨p.val, by omega⟩)
        + ∑ k : Fin 512, d (ix2 r k) * bm (ix2 k ⟨2048 + p.val, by omega⟩) := by
  pointwise [k0_pay17, k0_pay8, k0_pay14, k0_pay15, k0_pay16, k0_pay7, k0_pay9, k0_pay10, k0_pay11, k0_pay12, k0_pay13]

/-- The kernel's gated output over its new state `h`, at an index. -/
theorem pay18_at (d : FVec Ideal S8x512 .f32) (v60 : FVec Ideal S8x4096 .f32) (v75 v77 v79 : FVec Ideal S8x2048 .f32)
    (cm : FVec Ideal S4096x512 .f32) (ds : FVec Ideal S1x512 .f32) (w : FVec Ideal S512x512 .f32) (b : FVec Ideal S1x512 .f32)
    (r : Fin 8) (q : Fin 512) :
    k0_pay18 (F := Ideal) (k0_pay7 d) v60 v75 v77 v79 cm ds w b (ix2 r q)
      = gluAt (fun j => geluAt (∑ k : Fin 4096, k0_pay17 (F := Ideal) v60 v75 v77 v79 (ix2 r k) * cm (ix2 k j)
          + ds (ix2 0 j) * d (ix2 r j))) (fun k => w (ix2 k q)) (b (ix2 0 q)) q := by
  generalize hh : k0_pay17 (F := Ideal) v60 v75 v77 v79 = h
  pointwise [k0_pay18, k0_pay7, gluAt, geluAt, hh, zero_sub, erf_eq]

end Payloads
section Hosts

/-- The indicator of the diagonal, 32 by 32, as the kernel's host code computes it. -/
def eye : FVec Ideal S32x32 .f32 :=
  uitofp .f32 (cmpi .eq (addi (iotaInDim S32x32 32 0) (broadcastInDim S32x32 ![] bcast_S_S32x32 (constantI S_ 32 0#32))) (iotaInDim S32x32 32 1))

/-- The comparison that the indicator is read from. -/
theorem eye_bit : ∀ a b : Fin 32, IntOp.cmpi CmpIPredicate.eq (IntOp.addi (BitVec.ofNat 32 a.val) 0#32) (BitVec.ofNat 32 b.val)
    = if a.val = b.val then 1#1 else 0#1 := by
  decide +kernel

/-- The indicator, at an index. -/
theorem eye_at (a b : Fin 32) : eye (ix2 a b) = if a.val = b.val then (1 : EReal) else 0 := by
  show ((IntOp.cmpi CmpIPredicate.eq (IntOp.addi (BitVec.ofNat 32 a.val) 0#32) (BitVec.ofNat 32 b.val)).toNat : EReal) = _
  rw [eye_bit]
  split_ifs <;> simp

/-- One half of the input matrix: the groups' transposed matrices along the diagonal. -/
def diagB (b : FVec Ideal S32x64x16 .f32) : FVec Ideal S512x2048 .f32 :=
  shapeCast (α := EReal) S512x2048 (mulf
    (broadcastInDim S32x16x32x64 ![0, 1, 2, 3] bcast_S32x16x1x64_S32x16x32x64_0_1_2_3
      (broadcastInDim S32x16x1x64 ![0, 1, 3] bcast_S32x16x64_S32x16x1x64_0_1_3
        (transpose S32x16x64 [0, 2, 1] b transposes_S32x64x16_S32x16x64_0_2_1)))
    (broadcastInDim S32x16x32x64 ![0, 1, 2, 3] bcast_S32x1x32x1_S32x16x32x64_0_1_2_3
      (broadcastInDim S32x1x32x1 ![0, 2] bcast_S32x32_S32x1x32x1_0_2 eye))) shapeCasts_S32x16x32x64_S512x2048

/-- That, at an index. -/
theorem diagB_at (b : FVec Ideal S32x64x16 .f32) (k : Fin 512) (p : Fin 2048) :
    diagB b (ix2 k p) = b (ix3 ⟨k.val / 16, by omega⟩ ⟨p.val % 64, by omega⟩ ⟨k.val % 16, by omega⟩)
      * if k.val / 16 = p.val / 64 then 1 else 0 := by
  rw [← eye_at ⟨k.val / 16, by omega⟩ ⟨p.val / 64, by omega⟩]
  pointwise [diagB]

/-- The input matrix: its real half beside its imaginary half. -/
def bmat (br bi : FVec Ideal S32x64x16 .f32) : FVec Ideal S512x4096 .f32 :=
  concatenate S512x4096 1 [⟨S512x2048, diagB br⟩, ⟨S512x2048, diagB bi⟩] concatenates_S512x2048_S512x2048_S512x4096_d1

/-- The real half, at an index. -/
theorem bmat_lo (br bi : FVec Ideal S32x64x16 .f32) (k : Fin 512) (p : Fin 2048) :
    bmat br bi (ix2 k ⟨p.val, by omega⟩) = diagB br (ix2 k p) := by
  generalize hr : diagB br = x
  pointwise [bmat, hr]

/-- The imaginary half, at an index. -/
theorem bmat_hi (br bi : FVec Ideal S32x64x16 .f32) (k : Fin 512) (p : Fin 2048) :
    bmat br bi (ix2 k ⟨2048 + p.val, by omega⟩) = diagB bi (ix2 k p) := by
  generalize hr : diagB bi = x
  pointwise [bmat, hr]

/-- One half of the output matrix: the groups' matrices along the diagonal. -/
def diagC (c : FVec Ideal S32x64x16 .f32) : FVec Ideal S2048x512 .f32 :=
  shapeCast (α := EReal) S2048x512 (mulf
    (broadcastInDim S32x64x32x16 ![0, 1, 2, 3] bcast_S32x64x1x16_S32x64x32x16_0_1_2_3
      (broadcastInDim S32x64x1x16 ![0, 1, 3] bcast_S32x64x16_S32x64x1x16_0_1_3 c))
    (broadcastInDim S32x64x32x16 ![0, 1, 2, 3] bcast_S32x1x32x1_S32x64x32x16_0_1_2_3
      (broadcastInDim S32x1x32x1 ![0, 2] bcast_S32x32_S32x1x32x1_0_2 eye))) shapeCasts_S32x64x32x16_S2048x512

/-- That, at an index. -/
theorem diagC_at (c : FVec Ideal S32x64x16 .f32) (p : Fin 2048) (q : Fin 512) :
    diagC c (ix2 p q) = c (ix3 ⟨p.val / 64, by omega⟩ ⟨p.val % 64, by omega⟩ ⟨q.val % 16, by omega⟩)
      * if p.val / 64 = q.val / 16 then 1 else 0 := by
  rw [← eye_at ⟨p.val / 64, by omega⟩ ⟨q.val / 16, by omega⟩]
  pointwise [diagC]

/-- The groups' output matrices, transposed. -/
def ct (c : FVec Ideal S32x16x64 .f32) : FVec Ideal S32x64x16 .f32 :=
  transpose S32x64x16 [0, 2, 1] c transposes_S32x16x64_S32x64x16_0_2_1

/-- Those, at an index. -/
theorem ct_at (c : FVec Ideal S32x16x64 .f32) (g : Fin 32) (s : Fin 64) (k : Fin 16) : ct c (ix3 g s k) = c (ix3 g k s) := by
  pointwise [ct]

/-- Those negated, at an index. -/
theorem ct_neg (c : FVec Ideal S32x16x64 .f32) (g : Fin 32) (s : Fin 64) (k : Fin 16) :
    Host.negf (ct c) (ix3 g s k) = -c (ix3 g k s) := by
  pointwise [ct]

/-- The output matrix: the real half above the negated imaginary half. -/
def cmat (cr ci : FVec Ideal S32x16x64 .f32) : FVec Ideal S4096x512 .f32 :=
  concatenate S4096x512 0 [⟨S2048x512, diagC (ct cr)⟩, ⟨S2048x512, diagC (Host.negf (ct ci))⟩] concatenates_S2048x512_S2048x512_S4096x512_d0

/-- The real half, at an index. -/
theorem cmat_lo (cr ci : FVec Ideal S32x16x64 .f32) (p : Fin 2048) (q : Fin 512) :
    cmat cr ci (ix2 ⟨p.val, by omega⟩ q) = diagC (ct cr) (ix2 p q) := by
  generalize hr : diagC (ct cr) = x
  pointwise [cmat, hr]

/-- The imaginary half, at an index. -/
theorem cmat_hi (cr ci : FVec Ideal S32x16x64 .f32) (p : Fin 2048) (q : Fin 512) :
    cmat cr ci (ix2 ⟨2048 + p.val, by omega⟩ q) = diagC (Host.negf (ct ci)) (ix2 p q) := by
  generalize hr : diagC (Host.negf (ct ci)) = x
  pointwise [cmat, hr]

/-- The state as the kernel reads it: its real part beside its imaginary part. -/
def hmat (st : FVec Ideal S8x32x64x2 .f32) : FVec Ideal S8x4096 .f32 :=
  concatenate S8x4096 1
    [⟨S8x2048, shapeCast (α := EReal) S8x2048 (shapeCast (α := EReal) S8x32x64 (extractStridedSlice S8x32x64x1 ![0, 0, 0, 0] st slices_S8x32x64x2_S8x32x64x1_0_0_0_0) shapeCasts_S8x32x64x1_S8x32x64) shapeCasts_S8x32x64_S8x2048⟩,
     ⟨S8x2048, shapeCast (α := EReal) S8x2048 (shapeCast (α := EReal) S8x32x64 (extractStridedSlice S8x32x64x1 ![0, 0, 0, 1] st slices_S8x32x64x2_S8x32x64x1_0_0_0_1) shapeCasts_S8x32x64x1_S8x32x64) shapeCasts_S8x32x64_S8x2048⟩]
    concatenates_S8x2048_S8x2048_S8x4096_d1

/-- The real half, at an index. -/
theorem hmat_lo (st : FVec Ideal S8x32x64x2 .f32) (r : Fin 8) (p : Fin 2048) :
    hmat st (ix2 r ⟨p.val, by omega⟩) = st (ix4 r ⟨p.val / 64, by omega⟩ ⟨p.val % 64, by omega⟩ 0) := by
  pointwise [hmat]

/-- The imaginary half, at an index. -/
theorem hmat_hi (st : FVec Ideal S8x32x64x2 .f32) (r : Fin 8) (p : Fin 2048) :
    hmat st (ix2 r ⟨2048 + p.val, by omega⟩) = st (ix4 r ⟨p.val / 64, by omega⟩ ⟨p.val % 64, by omega⟩ 1) := by
  pointwise [hmat]

/-- The transition's two rows: real parts above imaginary parts. -/
def amat (ar ai : FVec Ideal S32x64 .f32) : FVec Ideal S2x2048 .f32 :=
  concatenate S2x2048 0
    [⟨S1x2048, broadcastInDim S1x2048 ![1] bcast_S2048_S1x2048_1 (shapeCast (α := EReal) S2048 ar shapeCasts_S32x64_S2048)⟩,
     ⟨S1x2048, broadcastInDim S1x2048 ![1] bcast_S2048_S1x2048_1 (shapeCast (α := EReal) S2048 ai shapeCasts_S32x64_S2048)⟩]
    concatenates_S1x2048_S1x2048_S2x2048_d0

/-- The real row, at an index. -/
theorem amat_0 (ar ai : FVec Ideal S32x64 .f32) (p : Fin 2048) :
    amat ar ai (ix2 0 p) = ar (ix2 ⟨p.val / 64, by omega⟩ ⟨p.val % 64, by omega⟩) := by
  pointwise [amat]

/-- The imaginary row, at an index. -/
theorem amat_1 (ar ai : FVec Ideal S32x64 .f32) (p : Fin 2048) :
    amat ar ai (ix2 1 p) = ai (ix2 ⟨p.val / 64, by omega⟩ ⟨p.val % 64, by omega⟩) := by
  pointwise [amat]

/-- The gating weights' first time step, one per column. -/
def wrow (w : FVec Ideal S4x128x128 .f32) : FVec Ideal S1x512 .f32 :=
  shapeCast (α := EReal) S1x512 (shapeCast (α := EReal) S512 (broadcastInDim S4x128 ![0] bcast_S4_S4x128_0
    (shapeCast (α := EReal) S4 (extractStridedSlice S4x1x1 ![0, 0, 0] w slices_S4x128x128_S4x1x1_0_0_0) shapeCasts_S4x1x1_S4))
    shapeCasts_S4x128_S512) shapeCasts_S512_S1x512

/-- Those, at an index. -/
theorem wrow_at (w : FVec Ideal S4x128x128 .f32) (q : Fin 512) : wrow w (ix2 0 q) = w (ix3 ⟨q.val / 128, by omega⟩ 0 0) := by
  pointwise [wrow]

/-- The gating offsets' first time step, one per column. -/
def brow (b : FVec Ideal S4x128 .f32) : FVec Ideal S1x512 .f32 :=
  shapeCast (α := EReal) S1x512 (shapeCast (α := EReal) S512 (broadcastInDim S4x128 ![0] bcast_S4_S4x128_0
    (shapeCast (α := EReal) S4 (extractStridedSlice S4x1 ![0, 0] b slices_S4x128_S4x1_0_0) shapeCasts_S4x1_S4))
    shapeCasts_S4x128_S512) shapeCasts_S512_S1x512

/-- Those, at an index. -/
theorem brow_at (b : FVec Ideal S4x128 .f32) (q : Fin 512) : brow b (ix2 0 q) = b (ix2 ⟨q.val / 128, by omega⟩ 0) := by
  pointwise [brow]

end Hosts

section Values

/-- A whole block read whole. -/
theorem ld0 (x : Vec Ideal S8x512 .f32) : View.ld (Val := Elt Ideal) x r0_0 = x :=
  View.ld_unit_zero (by funext a; fin_cases a <;> rfl) _ _
/-- The same of a row. -/
theorem ld1 (x : Vec Ideal S1x512 .f32) : View.ld (Val := Elt Ideal) x r0_1 = x :=
  View.ld_unit_zero (by funext a; fin_cases a <;> rfl) _ _
/-- The same of the input matrix. -/
theorem ld2 (x : Vec Ideal S512x4096 .f32) : View.ld (Val := Elt Ideal) x r0_2 = x :=
  View.ld_unit_zero (by funext a; fin_cases a <;> rfl) _ _
/-- The same of the state. -/
theorem ld3 (x : Vec Ideal S8x4096 .f32) : View.ld (Val := Elt Ideal) x r0_3 = x :=
  View.ld_unit_zero (by funext a; fin_cases a <;> rfl) _ _
/-- The same of the output matrix. -/
theorem ld6 (x : Vec Ideal S4096x512 .f32) : View.ld (Val := Elt Ideal) x r0_6 = x :=
  View.ld_unit_zero (by funext a; fin_cases a <;> rfl) _ _
/-- The same of the gate's weights. -/
theorem ld7 (x : Vec Ideal S512x512 .f32) : View.ld (Val := Elt Ideal) x r0_7 = x :=
  View.ld_unit_zero (by funext a; fin_cases a <;> rfl) _ _
/-- The transition's first row. -/
theorem ld4 (x : FVec Ideal S2x2048 .f32) (p : Fin 2048) : View.ld (Val := Elt Ideal) (e' := .f32) x r0_4 (ix2 0 p) = x (ix2 0 p) := by
  show x (r0_4.emb (ix2 0 p)) = _
  refine congrArg x (funext fun a => ?_)
  fin_cases a
  · rfl
  · exact Fin.ext (by show 0 + 1 * p.val = p.val; omega)
/-- The transition's second row. -/
theorem ld5 (x : FVec Ideal S2x2048 .f32) (p : Fin 2048) : View.ld (Val := Elt Ideal) (e' := .f32) x r0_5 (ix2 0 p) = x (ix2 1 p) := by
  show x (r0_5.emb (ix2 0 p)) = _
  refine congrArg x (funext fun a => ?_)
  fin_cases a
  · rfl
  · exact Fin.ext (by show 0 + 1 * p.val = p.val; omega)

/-- The kernel's new state from what its windows hold. -/
def newH (du : FVec Ideal SmixRefIdeal.S8x1x512 .f32) (st : FVec Ideal S8x32x64x2 .f32) (ar ai : FVec Ideal S32x64 .f32)
    (br bi : FVec Ideal S32x64x16 .f32) : FVec Ideal S8x4096 .f32 :=
  k0_pay17 (F := Ideal) (k0_pay8 (refV2 du) (bmat br bi))
    (k0_pay14 (refV2 du) (bmat br bi) (hmat st) (View.ld (amat ar ai) r0_4) (View.ld (amat ar ai) r0_5))
    (k0_pay15 (hmat st) (View.ld (amat ar ai) r0_4)) (k0_pay16 (hmat st) (View.ld (amat ar ai) r0_5))

/-- A group's share of the input matrix's product. -/
theorem in_sum (du : FVec Ideal SmixRefIdeal.S8x1x512 .f32) (b : FVec Ideal S32x64x16 .f32) (r : Fin 8) (p : Fin 2048) :
    ∑ k : Fin 512, refV2 du (ix2 r k) * diagB b (ix2 k p)
      = ∑ k : Fin 16, b (ix3 ⟨p.val / 64, by omega⟩ ⟨p.val % 64, by omega⟩ k) * du (ix3 r 0 ⟨p.val / 64 * 16 + k.val, by omega⟩) := by
  simp only [diagB_at]
  refine (diag_sum (G := 32) (C := 16) (N := 512) rfl (by omega) ⟨p.val / 64, by omega⟩ (fun k => refV2 du (ix2 r k))
    (fun g k => b (ix3 g ⟨p.val % 64, by omega⟩ k))).trans (Finset.sum_congr rfl fun k _ => ?_)
  rw [refV2_at, mul_comm]

/-- An index of the state lies in one of its halves. -/
theorem halves (k : Fin 4096) : ∃ p : Fin 2048, k = ⟨p.val, by omega⟩ ∨ k = ⟨2048 + p.val, by omega⟩ := by
  by_cases h : k.val < 2048
  · exact ⟨⟨k.val, h⟩, .inl rfl⟩
  · exact ⟨⟨k.val - 2048, by omega⟩, .inr (Fin.ext (by show k.val = 2048 + (k.val - 2048); omega))⟩

/-- The kernel's new state is the reference's, at an index. -/
theorem newH_at (du : FVec Ideal SmixRefIdeal.S8x1x512 .f32) (st : FVec Ideal S8x32x64x2 .f32) (ar ai : FVec Ideal S32x64 .f32)
    (br bi : FVec Ideal S32x64x16 .f32) (r : Fin 8) (k : Fin 4096) :
    newH du st ar ai br bi (ix2 r k) = refH (refNre du st ar ai br) (refNim du st ar ai bi) (ix2 r k) := by
  obtain ⟨p, rfl | rfl⟩ := halves k
  · rw [newH, pay17_lo, refH_lo, refNre_at, ld4, ld5, amat_0, amat_1, hmat_lo, hmat_hi]
    simp only [bmat_lo]
    rw [in_sum]
  · rw [newH, pay17_hi, refH_hi, refNim_at, ld4, ld5, amat_0, amat_1, hmat_lo, hmat_hi]
    simp only [bmat_hi]
    rw [in_sum]

/-- A sum over the state is a sum over each half. -/
theorem half_sum (f : Fin 4096 → EReal) :
    ∑ k, f k = ∑ p : Fin 2048, f ⟨p.val, by omega⟩ + ∑ p : Fin 2048, f ⟨2048 + p.val, by omega⟩ :=
  Fin.sum_univ_add (a := 2048) (b := 2048) f

/-- A group's share of one half of the output matrix's product. -/
theorem out_sum (n : FVec Ideal SmixRefIdeal.S8x32x64 .f32) (c : FVec Ideal S32x64x16 .f32) (r : Fin 8) (q : Fin 512) :
    ∑ p : Fin 2048, n (ix3 r ⟨p.val / 64, by omega⟩ ⟨p.val % 64, by omega⟩) * diagC c (ix2 p q)
      = ∑ s : Fin 64, n (ix3 r ⟨q.val / 16, by omega⟩ s) * c (ix3 ⟨q.val / 16, by omega⟩ s ⟨q.val % 16, by omega⟩) := by
  simp only [diagC_at]
  refine (diag_sum (G := 32) (C := 64) (N := 2048) rfl (by omega) ⟨q.val / 16, by omega⟩
    (fun p => n (ix3 r ⟨p.val / 64, by omega⟩ ⟨p.val % 64, by omega⟩))
    (fun g s => c (ix3 g s ⟨q.val % 16, by omega⟩))).trans (Finset.sum_congr rfl fun s _ => ?_)
  have e1 : (q.val / 16 * 64 + s.val) / 64 = q.val / 16 := by omega
  have e2 : (q.val / 16 * 64 + s.val) % 64 = s.val := by omega
  simp only [e1, e2]

/-- The recurrence's output by the output matrix is the reference's. -/
theorem y_at (nre nim : FVec Ideal SmixRefIdeal.S8x32x64 .f32) (cr ci : FVec Ideal S32x16x64 .f32) (dsk : FVec Ideal S512 .f32)
    (du : FVec Ideal SmixRefIdeal.S8x1x512 .f32) (r : Fin 8) (q : Fin 512) :
    ∑ k : Fin 4096, refH nre nim (ix2 r k) * cmat cr ci (ix2 k q) + dsk (ix1 q) * refV2 du (ix2 r q)
      = refY nre nim cr ci dsk du (ix2 r q) := by
  rw [refY_at, half_sum, refV2_at]
  refine congrArg (· + _) ?_
  simp only [refH_lo, refH_hi, cmat_lo, cmat_hi]
  rw [out_sum, out_sum, ← Finset.sum_add_distrib]
  refine Finset.sum_congr rfl fun s _ => ?_
  rw [ct_at, ct_neg, mul_neg, ← sub_eq_add_neg, mul_comm, mul_comm (nim _)]

/-- A vector as a row. -/
def rowV (x : FVec Ideal S512 .f32) : FVec Ideal S1x512 .f32 := shapeCast (α := EReal) S1x512 x shapeCasts_S512_S1x512

/-- That, at an index. -/
theorem rowV_at (x : FVec Ideal S512 .f32) (q : Fin 512) : rowV x (ix2 0 q) = x (ix1 q) := by
  pointwise [rowV]

/-- Result 15's block. -/
theorem block15 (x0 x1 : Vec Ideal S8x512 .f32) (x2 x3 x4 x5 : Vec Ideal S1x512 .f32) (x6 : Vec Ideal S8x512 .f32)
    (x7 : Vec Ideal S8x4096 .f32) (x8 : Vec Ideal S2x2048 .f32) (x9 : Vec Ideal S512x4096 .f32) (x10 : Vec Ideal S4096x512 .f32)
    (x11 : Vec Ideal S1x512 .f32) (x12 : Vec Ideal S512x512 .f32) (x13 : Vec Ideal S1x512 .f32) (r : Fin 8) (q : Fin 512) :
    out0_15 (F := Ideal) x0 x1 x2 x3 x4 x5 x6 x7 x8 x9 x10 x11 x12 x13 (ix2 r q)
      = k0_pay5 (F := Ideal) (k0_pay2 x3) (k0_pay3 x1) (k0_pay4 x2) (ix2 r q) := by
  refine (congrFun (View.canon_unit_zero (S := S8x512) (Val := Elt Ideal) (e := .f32) (off := ![0, 0]) (by funext a; fin_cases a <;> rfl) _
    (k0_pay5 (F := Ideal) (k0_pay2 (View.ld x3 r0_1)) (k0_pay3 (View.ld x1 r0_0)) (k0_pay4 (View.ld x2 r0_1)))) (ix2 r q)).trans ?_
  rw [ld0, ld1, ld1]

/-- Result 14's block. -/
theorem block14 (x0 x1 : Vec Ideal S8x512 .f32) (x2 x3 x4 x5 : Vec Ideal S1x512 .f32) (x6 : Vec Ideal S8x512 .f32)
    (x7 : Vec Ideal S8x4096 .f32) (x8 : Vec Ideal S2x2048 .f32) (x9 : Vec Ideal S512x4096 .f32) (x10 : Vec Ideal S4096x512 .f32)
    (x11 : Vec Ideal S1x512 .f32) (x12 : Vec Ideal S512x512 .f32) (x13 : Vec Ideal S1x512 .f32) (r : Fin 8) (q : Fin 512) :
    out0_14 (F := Ideal) x0 x1 x2 x3 x4 x5 x6 x7 x8 x9 x10 x11 x12 x13 (ix2 r q)
      = k0_pay6 (F := Ideal) (k0_pay1 x0) (k0_pay2 x3) (k0_pay3 x1) (k0_pay4 x2) x4 x5 (ix2 r q) := by
  refine (congrFun (View.canon_unit_zero (S := S8x512) (Val := Elt Ideal) (e := .bf16) (off := ![0, 0]) (by funext a; fin_cases a <;> rfl) _
    (k0_pay6 (F := Ideal) (k0_pay1 (View.ld x0 r0_0)) (k0_pay2 (View.ld x3 r0_1)) (k0_pay3 (View.ld x1 r0_0)) (k0_pay4 (View.ld x2 r0_1))
      (View.ld x4 r0_1) (View.ld x5 r0_1))) (ix2 r q)).trans ?_
  rw [ld0, ld0, ld1, ld1, ld1, ld1]

/-- Result 17's block. -/
theorem block17 (x0 x1 : Vec Ideal S8x512 .f32) (x2 x3 x4 x5 : Vec Ideal S1x512 .f32) (x6 : Vec Ideal S8x512 .f32)
    (x7 : Vec Ideal S8x4096 .f32) (x8 : Vec Ideal S2x2048 .f32) (x9 : Vec Ideal S512x4096 .f32) (x10 : Vec Ideal S4096x512 .f32)
    (x11 : Vec Ideal S1x512 .f32) (x12 : Vec Ideal S512x512 .f32) (x13 : Vec Ideal S1x512 .f32) (r : Fin 8) (k : Fin 4096) :
    out0_17 (F := Ideal) x0 x1 x2 x3 x4 x5 x6 x7 x8 x9 x10 x11 x12 x13 (ix2 r k)
      = k0_pay17 (F := Ideal) (k0_pay8 x6 x9) (k0_pay14 x6 x9 x7 (View.ld x8 r0_4) (View.ld x8 r0_5))
          (k0_pay15 x7 (View.ld x8 r0_4)) (k0_pay16 x7 (View.ld x8 r0_5)) (ix2 r k) := by
  refine (congrFun (View.canon_unit_zero (S := S8x4096) (Val := Elt Ideal) (e := .f32) (off := ![0, 0]) (by funext a; fin_cases a <;> rfl) _
    (k0_pay17 (F := Ideal) (k0_pay8 (View.ld x6 r0_0) (View.ld x9 r0_2))
      (k0_pay14 (View.ld x6 r0_0) (View.ld x9 r0_2) (View.ld x7 r0_3) (View.ld x8 r0_4) (View.ld x8 r0_5))
      (k0_pay15 (View.ld x7 r0_3) (View.ld x8 r0_4)) (k0_pay16 (View.ld x7 r0_3) (View.ld x8 r0_5)))) (ix2 r k)).trans ?_
  rw [ld0, ld2, ld3]

/-- Result 16's block. -/
theorem block16 (x0 x1 : Vec Ideal S8x512 .f32) (x2 x3 x4 x5 : Vec Ideal S1x512 .f32) (x6 : Vec Ideal S8x512 .f32)
    (x7 : Vec Ideal S8x4096 .f32) (x8 : Vec Ideal S2x2048 .f32) (x9 : Vec Ideal S512x4096 .f32) (x10 : Vec Ideal S4096x512 .f32)
    (x11 : Vec Ideal S1x512 .f32) (x12 : Vec Ideal S512x512 .f32) (x13 : Vec Ideal S1x512 .f32) (r : Fin 8) (q : Fin 512) :
    out0_16 (F := Ideal) x0 x1 x2 x3 x4 x5 x6 x7 x8 x9 x10 x11 x12 x13 (ix2 r q)
      = k0_pay18 (F := Ideal) (k0_pay7 x6) (k0_pay8 x6 x9) (k0_pay14 x6 x9 x7 (View.ld x8 r0_4) (View.ld x8 r0_5))
          (k0_pay15 x7 (View.ld x8 r0_4)) (k0_pay16 x7 (View.ld x8 r0_5)) x10 x11 x12 x13 (ix2 r q) := by
  refine (congrFun (View.canon_unit_zero (S := S8x512) (Val := Elt Ideal) (e := .bf16) (off := ![0, 0]) (by funext a; fin_cases a <;> rfl) _
    (k0_pay18 (F := Ideal) (k0_pay7 (View.ld x6 r0_0)) (k0_pay8 (View.ld x6 r0_0) (View.ld x9 r0_2))
      (k0_pay14 (View.ld x6 r0_0) (View.ld x9 r0_2) (View.ld x7 r0_3) (View.ld x8 r0_4) (View.ld x8 r0_5))
      (k0_pay15 (View.ld x7 r0_3) (View.ld x8 r0_4)) (k0_pay16 (View.ld x7 r0_3) (View.ld x8 r0_5))
      (View.ld x10 r0_6) (View.ld x11 r0_1) (View.ld x12 r0_7) (View.ld x13 r0_1))) (ix2 r q)).trans ?_
  rw [ld0, ld1, ld1, ld2, ld3, ld6, ld7]

end Values

section Equal

/-- The kernel's normalised values are the reference's. -/
theorem v_eq (cv : FVec Ideal SmixRefIdeal.S8x1x512 .f32) (lg lb : FVec Ideal S512 .f32) (r : Fin 8) (q : Fin 512) :
    k0_pay5 (F := Ideal) (k0_pay2 (rowV lb)) (k0_pay3 (refV2 cv)) (k0_pay4 (rowV lg)) (ix2 r q)
      = refV2 (refV (refU cv) lg lb) (ix2 r q) := by
  rw [pay5_at, refV2_at, refV_at]
  simp only [refV2_at, rowV_at, refU_at]

/-- The kernel's gated values are the reference's. -/
theorem c_eq (cu cv : FVec Ideal SmixRefIdeal.S8x1x512 .f32) (lg lb : FVec Ideal S512 .f32) (ws : FVec Ideal S4x128x128 .f32)
    (bs : FVec Ideal S4x128 .f32) (r : Fin 8) (q : Fin 512) :
    k0_pay6 (F := Ideal) (k0_pay1 (refV2 cu)) (k0_pay2 (rowV lb)) (k0_pay3 (refV2 cv)) (k0_pay4 (rowV lg)) (wrow ws) (brow bs) (ix2 r q)
      = refC (refU cu) (refV (refU cv) lg lb) (refW ws) bs (ix2 r q) := by
  rw [pay6_at, refC_at, refU_at, refV_at, refW_at]
  simp only [refV2_at, rowV_at, refU_at, wrow_at, brow_at]

/-- The kernel's gated output of the recurrence is the reference's. -/
theorem d_eq (du : FVec Ideal SmixRefIdeal.S8x1x512 .f32) (st : FVec Ideal S8x32x64x2 .f32) (ar ai : FVec Ideal S32x64 .f32)
    (br bi : FVec Ideal S32x64x16 .f32) (cr ci : FVec Ideal S32x16x64 .f32) (dsk : FVec Ideal S512 .f32)
    (gw : FVec Ideal S512x512 .f32) (gb : FVec Ideal S512 .f32) (r : Fin 8) (q : Fin 512) :
    k0_pay18 (F := Ideal) (k0_pay7 (refV2 du)) (k0_pay8 (refV2 du) (bmat br bi))
      (k0_pay14 (refV2 du) (bmat br bi) (hmat st) (View.ld (amat ar ai) r0_4) (View.ld (amat ar ai) r0_5))
      (k0_pay15 (hmat st) (View.ld (amat ar ai) r0_4)) (k0_pay16 (hmat st) (View.ld (amat ar ai) r0_5))
      (cmat cr ci) (rowV dsk) gw (rowV gb) (ix2 r q)
      = refO (refG (refY (refNre du st ar ai br) (refNim du st ar ai bi) cr ci dsk du)) gw gb (ix2 r q) := by
  rw [pay18_at, refO_at]
  show gluAt (fun j => geluAt (∑ k : Fin 4096, newH du st ar ai br bi (ix2 r k) * cmat cr ci (ix2 k j)
    + rowV dsk (ix2 0 j) * refV2 du (ix2 r j))) _ _ q = _
  simp only [newH_at, rowV_at, refG_at, y_at]

end Equal

section Kernel

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] :=
  (by decide +kernel : ∀ t : Fin grid0.N, _)

set_option maxHeartbeats 2000000 in
/-- What the window of the gated half holds. -/
theorem blk0 (t : Fin cfg0.N) : @Eq (FVec Ideal S8x512 .f32) (iblk m c 0 t) (refV2 (m (c.tc.loc main_arg0))) := by
  funext y
  obtain ⟨r, k, rfl⟩ : ∃ (r : Fin 8) (k : Fin 512), y = ix2 r k := ⟨y 0, y 1, eq_ix2 (n0 := 8) (n1 := 512) y⟩
  show V m c main_v77 _ = _
  entry_read
  show (refV2 (m (c.tc.loc main_arg0)) : FVec Ideal S8x512 .f32) _ = _
  refine congrArg (refV2 (m (c.tc.loc main_arg0)) : FVec Ideal S8x512 .f32) ?_
  have h : win0_0.index t = ![0, 0] := (idx t).1
  blk_ext [h]

set_option maxHeartbeats 2000000 in
/-- What the window of the values holds. -/
theorem blk1 (t : Fin cfg0.N) : @Eq (FVec Ideal S8x512 .f32) (iblk m c 1 t) (refV2 (m (c.tc.loc main_arg1))) := by
  funext y
  obtain ⟨r, k, rfl⟩ : ∃ (r : Fin 8) (k : Fin 512), y = ix2 r k := ⟨y 0, y 1, eq_ix2 (n0 := 8) (n1 := 512) y⟩
  show V m c main_v78 _ = _
  entry_read
  show (refV2 (m (c.tc.loc main_arg1)) : FVec Ideal S8x512 .f32) _ = _
  refine congrArg (refV2 (m (c.tc.loc main_arg1)) : FVec Ideal S8x512 .f32) ?_
  have h : win0_1.index t = ![0, 0] := (idx t).2.1
  blk_ext [h]

set_option maxHeartbeats 2000000 in
/-- What the window of the gain holds. -/
theorem blk2 (t : Fin cfg0.N) : @Eq (FVec Ideal S1x512 .f32) (iblk m c 2 t) (rowV (m (c.tc.loc main_arg2))) := by
  funext y
  obtain ⟨r, k, rfl⟩ : ∃ (r : Fin 1) (k : Fin 512), y = ix2 r k := ⟨y 0, y 1, eq_ix2 (n0 := 1) (n1 := 512) y⟩
  show V m c main_v79 _ = _
  entry_read
  show (rowV (m (c.tc.loc main_arg2)) : FVec Ideal S1x512 .f32) _ = _
  refine congrArg (rowV (m (c.tc.loc main_arg2)) : FVec Ideal S1x512 .f32) ?_
  have h : win0_2.index t = ![0, 0] := (idx t).2.2.1
  blk_ext [h]

set_option maxHeartbeats 2000000 in
/-- What the window of the offset holds. -/
theorem blk3 (t : Fin cfg0.N) : @Eq (FVec Ideal S1x512 .f32) (iblk m c 3 t) (rowV (m (c.tc.loc main_arg3))) := by
  funext y
  obtain ⟨r, k, rfl⟩ : ∃ (r : Fin 1) (k : Fin 512), y = ix2 r k := ⟨y 0, y 1, eq_ix2 (n0 := 1) (n1 := 512) y⟩
  show V m c main_v80 _ = _
  entry_read
  show (rowV (m (c.tc.loc main_arg3)) : FVec Ideal S1x512 .f32) _ = _
  refine congrArg (rowV (m (c.tc.loc main_arg3)) : FVec Ideal S1x512 .f32) ?_
  have h : win0_3.index t = ![0, 0] := (idx t).2.2.2.1
  blk_ext [h]

set_option maxHeartbeats 2000000 in
/-- What the window of the gating weights holds. -/
theorem blk4 (t : Fin cfg0.N) : @Eq (FVec Ideal S1x512 .f32) (iblk m c 4 t) (wrow (m (c.tc.loc main_arg4))) := by
  funext y
  obtain ⟨r, k, rfl⟩ : ∃ (r : Fin 1) (k : Fin 512), y = ix2 r k := ⟨y 0, y 1, eq_ix2 (n0 := 1) (n1 := 512) y⟩
  show V m c main_v71 _ = _
  entry_read
  show (wrow (m (c.tc.loc main_arg4)) : FVec Ideal S1x512 .f32) _ = _
  refine congrArg (wrow (m (c.tc.loc main_arg4)) : FVec Ideal S1x512 .f32) ?_
  have h : win0_4.index t = ![0, 0] := (idx t).2.2.2.2.1
  blk_ext [h]

set_option maxHeartbeats 2000000 in
/-- What the window of the gating offsets holds. -/
theorem blk5 (t : Fin cfg0.N) : @Eq (FVec Ideal S1x512 .f32) (iblk m c 5 t) (brow (m (c.tc.loc main_arg5))) := by
  funext y
  obtain ⟨r, k, rfl⟩ : ∃ (r : Fin 1) (k : Fin 512), y = ix2 r k := ⟨y 0, y 1, eq_ix2 (n0 := 1) (n1 := 512) y⟩
  show V m c main_v76 _ = _
  entry_read
  show (brow (m (c.tc.loc main_arg5)) : FVec Ideal S1x512 .f32) _ = _
  refine congrArg (brow (m (c.tc.loc main_arg5)) : FVec Ideal S1x512 .f32) ?_
  have h : win0_5.index t = ![0, 0] := (idx t).2.2.2.2.2.1
  blk_ext [h]

set_option maxHeartbeats 2000000 in
/-- What the window of the recurrence's input holds. -/
theorem blk6 (t : Fin cfg0.N) : @Eq (FVec Ideal S8x512 .f32) (iblk m c 6 t) (refV2 (m (c.tc.loc main_arg6))) := by
  funext y
  obtain ⟨r, k, rfl⟩ : ∃ (r : Fin 8) (k : Fin 512), y = ix2 r k := ⟨y 0, y 1, eq_ix2 (n0 := 8) (n1 := 512) y⟩
  show V m c main_v81 _ = _
  entry_read
  show (refV2 (m (c.tc.loc main_arg6)) : FVec Ideal S8x512 .f32) _ = _
  refine congrArg (refV2 (m (c.tc.loc main_arg6)) : FVec Ideal S8x512 .f32) ?_
  have h : win0_6.index t = ![0, 0] := (idx t).2.2.2.2.2.2.1
  blk_ext [h]

set_option maxHeartbeats 2000000 in
/-- What the window of the state holds. -/
theorem blk7 (t : Fin cfg0.N) : @Eq (FVec Ideal S8x4096 .f32) (iblk m c 7 t) (hmat (m (c.tc.loc main_arg7))) := by
  funext y
  obtain ⟨r, k, rfl⟩ : ∃ (r : Fin 8) (k : Fin 4096), y = ix2 r k := ⟨y 0, y 1, eq_ix2 (n0 := 8) (n1 := 4096) y⟩
  show V m c main_v66 _ = _
  entry_read
  show (hmat (m (c.tc.loc main_arg7)) : FVec Ideal S8x4096 .f32) _ = _
  refine congrArg (hmat (m (c.tc.loc main_arg7)) : FVec Ideal S8x4096 .f32) ?_
  have h : win0_7.index t = ![0, 0] := (idx t).2.2.2.2.2.2.2.1
  blk_ext [h]

set_option maxHeartbeats 2000000 in
/-- What the window of the transition holds. -/
theorem blk8 (t : Fin cfg0.N) : @Eq (FVec Ideal S2x2048 .f32) (iblk m c 8 t) (amat (m (c.tc.loc main_arg8)) (m (c.tc.loc main_arg9))) := by
  funext y
  obtain ⟨r, k, rfl⟩ : ∃ (r : Fin 2) (k : Fin 2048), y = ix2 r k := ⟨y 0, y 1, eq_ix2 (n0 := 2) (n1 := 2048) y⟩
  show V m c main_v4 _ = _
  entry_read
  show (amat (m (c.tc.loc main_arg8)) (m (c.tc.loc main_arg9)) : FVec Ideal S2x2048 .f32) _ = _
  refine congrArg (amat (m (c.tc.loc main_arg8)) (m (c.tc.loc main_arg9)) : FVec Ideal S2x2048 .f32) ?_
  have h : win0_8.index t = ![0, 0] := (idx t).2.2.2.2.2.2.2.2.1
  blk_ext [h]

set_option maxHeartbeats 2000000 in
/-- What the window of the input matrix holds. -/
theorem blk9 (t : Fin cfg0.N) : @Eq (FVec Ideal S512x4096 .f32) (iblk m c 9 t) (bmat (m (c.tc.loc main_arg10)) (m (c.tc.loc main_arg11))) := by
  funext y
  obtain ⟨r, k, rfl⟩ : ∃ (r : Fin 512) (k : Fin 4096), y = ix2 r k := ⟨y 0, y 1, eq_ix2 (n0 := 512) (n1 := 4096) y⟩
  show V m c main_v31 _ = _
  entry_read
  show (bmat (m (c.tc.loc main_arg10)) (m (c.tc.loc main_arg11)) : FVec Ideal S512x4096 .f32) _ = _
  refine congrArg (bmat (m (c.tc.loc main_arg10)) (m (c.tc.loc main_arg11)) : FVec Ideal S512x4096 .f32) ?_
  have h : win0_9.index t = ![0, 0] := (idx t).2.2.2.2.2.2.2.2.2.1
  blk_ext [h]

set_option maxHeartbeats 2000000 in
/-- What the window of the output matrix holds. -/
theorem blk10 (t : Fin cfg0.N) : @Eq (FVec Ideal S4096x512 .f32) (iblk m c 10 t) (cmat (m (c.tc.loc main_arg12)) (m (c.tc.loc main_arg13))) := by
  funext y
  obtain ⟨r, k, rfl⟩ : ∃ (r : Fin 4096) (k : Fin 512), y = ix2 r k := ⟨y 0, y 1, eq_ix2 (n0 := 4096) (n1 := 512) y⟩
  show V m c main_v59 _ = _
  entry_read
  show (cmat (m (c.tc.loc main_arg12)) (m (c.tc.loc main_arg13)) : FVec Ideal S4096x512 .f32) _ = _
  refine congrArg (cmat (m (c.tc.loc main_arg12)) (m (c.tc.loc main_arg13)) : FVec Ideal S4096x512 .f32) ?_
  have h : win0_10.index t = ![0, 0] := (idx t).2.2.2.2.2.2.2.2.2.2.1
  blk_ext [h]

set_option maxHeartbeats 2000000 in
/-- What the window of the skip weights holds. -/
theorem blk11 (t : Fin cfg0.N) : @Eq (FVec Ideal S1x512 .f32) (iblk m c 11 t) (rowV (m (c.tc.loc main_arg14))) := by
  funext y
  obtain ⟨r, k, rfl⟩ : ∃ (r : Fin 1) (k : Fin 512), y = ix2 r k := ⟨y 0, y 1, eq_ix2 (n0 := 1) (n1 := 512) y⟩
  show V m c main_v82 _ = _
  entry_read
  show (rowV (m (c.tc.loc main_arg14)) : FVec Ideal S1x512 .f32) _ = _
  refine congrArg (rowV (m (c.tc.loc main_arg14)) : FVec Ideal S1x512 .f32) ?_
  have h : win0_11.index t = ![0, 0] := (idx t).2.2.2.2.2.2.2.2.2.2.2.1
  blk_ext [h]

/-- What the window of the gate's weights holds. -/
theorem blk12 (t : Fin cfg0.N) : @Eq (FVec Ideal S512x512 .f32) (iblk m c 12 t) (m (c.tc.loc main_arg15)) := by
  funext y
  obtain ⟨r, k, rfl⟩ : ∃ (r : Fin 512) (k : Fin 512), y = ix2 r k := ⟨y 0, y 1, eq_ix2 (n0 := 512) (n1 := 512) y⟩
  have h : win0_12.index t = ![0, 0] := (idx t).2.2.2.2.2.2.2.2.2.2.2.2.1
  blk_point [iblk, V, h]

set_option maxHeartbeats 2000000 in
/-- What the window of the gate's offset holds. -/
theorem blk13 (t : Fin cfg0.N) : @Eq (FVec Ideal S1x512 .f32) (iblk m c 13 t) (rowV (m (c.tc.loc main_arg16))) := by
  funext y
  obtain ⟨r, k, rfl⟩ : ∃ (r : Fin 1) (k : Fin 512), y = ix2 r k := ⟨y 0, y 1, eq_ix2 (n0 := 1) (n1 := 512) y⟩
  show V m c main_v83 _ = _
  entry_read
  show (rowV (m (c.tc.loc main_arg16)) : FVec Ideal S1x512 .f32) _ = _
  refine congrArg (rowV (m (c.tc.loc main_arg16)) : FVec Ideal S1x512 .f32) ?_
  have h : win0_13.index t = ![0, 0] := (idx t).2.2.2.2.2.2.2.2.2.2.2.2.2.1
  blk_ext [h]

/-- The first result: the gated values. -/
theorem out14 : (dats m 0 c).arrAt 14 (cfgs 0).N = refC (refU (m (c.tc.loc main_arg0))) (refV (refU (m (c.tc.loc main_arg1))) (m (c.tc.loc main_arg2)) (m (c.tc.loc main_arg3))) (refW (m (c.tc.loc main_arg4))) (m (c.tc.loc main_arg5)) := by
  refine (dats m 0 c).arrAt_eq_of_covers 14 (refC (refU (m (c.tc.loc main_arg0))) (refV (refU (m (c.tc.loc main_arg1))) (m (c.tc.loc main_arg2)) (m (c.tc.loc main_arg3))) (refW (m (c.tc.loc main_arg4))) (m (c.tc.loc main_arg5))) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_14]
  refine (block14 _ _ _ _ _ _ _ _ _ _ _ _ _ _ r q).trans ?_
  rw [blk0 m c t, blk1 m c t, blk2 m c t, blk3 m c t, blk4 m c t, blk5 m c t]
  refine (c_eq _ _ _ _ _ _ r q).trans (congrArg (refC (refU (m (c.tc.loc main_arg0))) (refV (refU (m (c.tc.loc main_arg1))) (m (c.tc.loc main_arg2)) (m (c.tc.loc main_arg3))) (refW (m (c.tc.loc main_arg4))) (m (c.tc.loc main_arg5))) ?_)
  have h : win0_14.index t = ![0, 0] := (idx t).2.2.2.2.2.2.2.2.2.2.2.2.2.2.1
  blk_ext [h]

/-- The second result: the normalised values. -/
theorem out15 : (dats m 0 c).arrAt 15 (cfgs 0).N = refV2 (refV (refU (m (c.tc.loc main_arg1))) (m (c.tc.loc main_arg2)) (m (c.tc.loc main_arg3))) := by
  refine (dats m 0 c).arrAt_eq_of_covers 15 (refV2 (refV (refU (m (c.tc.loc main_arg1))) (m (c.tc.loc main_arg2)) (m (c.tc.loc main_arg3)))) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_15]
  refine (block15 _ _ _ _ _ _ _ _ _ _ _ _ _ _ r q).trans ?_
  rw [blk1 m c t, blk2 m c t, blk3 m c t]
  refine (v_eq _ _ _ r q).trans (congrArg (refV2 (refV (refU (m (c.tc.loc main_arg1))) (m (c.tc.loc main_arg2)) (m (c.tc.loc main_arg3)))) ?_)
  have h : win0_15.index t = ![0, 0] := (idx t).2.2.2.2.2.2.2.2.2.2.2.2.2.2.2.1
  blk_ext [h]

/-- The third result: the gated output of the recurrence. -/
theorem out16 : (dats m 0 c).arrAt 16 (cfgs 0).N = refO (refG (refY (refNre (m (c.tc.loc main_arg6)) (m (c.tc.loc main_arg7)) (m (c.tc.loc main_arg8)) (m (c.tc.loc main_arg9)) (m (c.tc.loc main_arg10))) (refNim (m (c.tc.loc main_arg6)) (m (c.tc.loc main_arg7)) (m (c.tc.loc main_arg8)) (m (c.tc.loc main_arg9)) (m (c.tc.loc main_arg11))) (m (c.tc.loc main_arg12)) (m (c.tc.loc main_arg13)) (m (c.tc.loc main_arg14)) (m (c.tc.loc main_arg6)))) (m (c.tc.loc main_arg15)) (m (c.tc.loc main_arg16)) := by
  refine (dats m 0 c).arrAt_eq_of_covers 16 (refO (refG (refY (refNre (m (c.tc.loc main_arg6)) (m (c.tc.loc main_arg7)) (m (c.tc.loc main_arg8)) (m (c.tc.loc main_arg9)) (m (c.tc.loc main_arg10))) (refNim (m (c.tc.loc main_arg6)) (m (c.tc.loc main_arg7)) (m (c.tc.loc main_arg8)) (m (c.tc.loc main_arg9)) (m (c.tc.loc main_arg11))) (m (c.tc.loc main_arg12)) (m (c.tc.loc main_arg13)) (m (c.tc.loc main_arg14)) (m (c.tc.loc main_arg6)))) (m (c.tc.loc main_arg15)) (m (c.tc.loc main_arg16))) (by decide +kernel) fun t _ y => ?_
  obtain ⟨r, q, rfl⟩ : ∃ (r : Fin 8) (q : Fin 512), y = ix2 r q := ⟨y 0, y 1, eq_ix2 (n0 := 8) (n1 := 512) y⟩
  blk_simp
  rw [after0_16]
  refine (block16 _ _ _ _ _ _ _ _ _ _ _ _ _ _ r q).trans ?_
  rw [blk6 m c t, blk7 m c t, blk8 m c t, blk9 m c t, blk10 m c t, blk11 m c t, blk12 m c t, blk13 m c t]
  refine (d_eq _ _ _ _ _ _ _ _ _ _ _ r q).trans (congrArg (refO (refG (refY (refNre (m (c.tc.loc main_arg6)) (m (c.tc.loc main_arg7)) (m (c.tc.loc main_arg8)) (m (c.tc.loc main_arg9)) (m (c.tc.loc main_arg10))) (refNim (m (c.tc.loc main_arg6)) (m (c.tc.loc main_arg7)) (m (c.tc.loc main_arg8)) (m (c.tc.loc main_arg9)) (m (c.tc.loc main_arg11))) (m (c.tc.loc main_arg12)) (m (c.tc.loc main_arg13)) (m (c.tc.loc main_arg14)) (m (c.tc.loc main_arg6)))) (m (c.tc.loc main_arg15)) (m (c.tc.loc main_arg16))) ?_)
  have h : win0_16.index t = ![0, 0] := (idx t).2.2.2.2.2.2.2.2.2.2.2.2.2.2.2.2.1
  blk_ext [h]

/-- The fourth result: the new state. -/
theorem out17 : (dats m 0 c).arrAt 17 (cfgs 0).N = refH (refNre (m (c.tc.loc main_arg6)) (m (c.tc.loc main_arg7)) (m (c.tc.loc main_arg8)) (m (c.tc.loc main_arg9)) (m (c.tc.loc main_arg10))) (refNim (m (c.tc.loc main_arg6)) (m (c.tc.loc main_arg7)) (m (c.tc.loc main_arg8)) (m (c.tc.loc main_arg9)) (m (c.tc.loc main_arg11))) := by
  refine (dats m 0 c).arrAt_eq_of_covers 17 (refH (refNre (m (c.tc.loc main_arg6)) (m (c.tc.loc main_arg7)) (m (c.tc.loc main_arg8)) (m (c.tc.loc main_arg9)) (m (c.tc.loc main_arg10))) (refNim (m (c.tc.loc main_arg6)) (m (c.tc.loc main_arg7)) (m (c.tc.loc main_arg8)) (m (c.tc.loc main_arg9)) (m (c.tc.loc main_arg11)))) (by decide +kernel) fun t _ y => ?_
  obtain ⟨r, q, rfl⟩ : ∃ (r : Fin 8) (q : Fin 4096), y = ix2 r q := ⟨y 0, y 1, eq_ix2 (n0 := 8) (n1 := 4096) y⟩
  blk_simp
  rw [after0_17]
  refine (block17 _ _ _ _ _ _ _ _ _ _ _ _ _ _ r q).trans ?_
  rw [blk6 m c t, blk7 m c t, blk8 m c t, blk9 m c t]
  refine (newH_at _ _ _ _ _ _ r q).trans (congrArg (refH (refNre (m (c.tc.loc main_arg6)) (m (c.tc.loc main_arg7)) (m (c.tc.loc main_arg8)) (m (c.tc.loc main_arg9)) (m (c.tc.loc main_arg10))) (refNim (m (c.tc.loc main_arg6)) (m (c.tc.loc main_arg7)) (m (c.tc.loc main_arg8)) (m (c.tc.loc main_arg9)) (m (c.tc.loc main_arg11)))) ?_)
  have h : win0_17.index t = ![0, 0] := (idx t).2.2.2.2.2.2.2.2.2.2.2.2.2.2.2.2.2
  blk_ext [h]

end Kernel

set_option maxHeartbeats 1600000 in
open Cert.SmixRefIdeal.Value Cert.SmixRefIdeal.Gen in
/-- The kernel's results at the extended reals are the reference's, element by element. -/
theorem algebraic : Cert.algebraic_SmixIdeal_SmixRefIdeal := by
  intro m g m' g' _ hagree
  refine ⟨fun c => (dats m 0 c).arrAt 14 (cfgs 0).N, fun c => (dats m 0 c).arrAt 15 (cfgs 0).N,
    fun c => (dats m 0 c).arrAt 16 (cfgs 0).N, fun c => (dats m 0 c).arrAt 17 (cfgs 0).N, ?_, ?_⟩
  · refine θ_run_mono (θ_run_and (Cert.SmixIdeal.Gen.run_main m g) (Cert.SmixIdeal.Gen.frame m g)) ?_
    intro r hr c
    have h := (hr.1 c).1
    exact ⟨h 14, h 15, h 16, h 17, hr.2.1 c⟩
  · refine θ_run_mono (Cert.SmixRefIdeal.Value.run m' g') ?_
    intro r hr c
    obtain ⟨h0, h1, h2, h3, ha⟩ := hr c
    obtain ⟨a0, a1, a2, a3, a4, a5, a6, a7, a8, a9, a10, a11, a12, a13, a14, a15, a16⟩ := hagree c
    refine ⟨h0.trans (Eq.symm ?_), h1.trans (Eq.symm ?_), h2.trans (Eq.symm ?_), h3.trans (Eq.symm ?_), ha⟩
    · refine (out14 m c).trans ?_
      rw [← a0, ← a1, ← a2, ← a3, ← a4, ← a5]
      rfl
    · refine (out15 m c).trans ?_
      rw [← a1, ← a2, ← a3]
      rfl
    · refine (out16 m c).trans ?_
      rw [← a6, ← a7, ← a8, ← a9, ← a10, ← a11, ← a12, ← a13, ← a14, ← a15, ← a16]
      rfl
    · refine (out17 m c).trans ?_
      rw [← a6, ← a7, ← a8, ← a9, ← a10, ← a11]
      rfl

end Cert.Proof.SmixClaims

end
-- ==== Proof.lean ====
module

public import proofs.«01_k».proof.Defs
public import proofs.«01_k».proof.Proof.Ffn
public import proofs.«01_k».proof.Proof.Proj
public import proofs.«01_k».proof.Proof.Out
public import proofs.«01_k».proof.Proof.Norm
public import proofs.«01_k».proof.Proof.ProjS
public import proofs.«01_k».proof.Proof.NormS
public import proofs.«01_k».proof.Proof.Smix

@[expose] public section

noncomputable section

namespace Cert.Proof

/-- Every claim about every call. -/
theorem claim : Cert.Claim :=
  ⟨Cert.Ffn.Gen.facts, Cert.FfnIdeal.Gen.facts, Cert.FfnRefIdeal.Gen.facts,
    Cert.Proj.Gen.facts, Cert.ProjIdeal.Gen.facts, Cert.ProjRefIdeal.Gen.facts,
    Cert.Out.Gen.facts, Cert.OutIdeal.Gen.facts, Cert.OutRefIdeal.Gen.facts,
    Cert.Norm.Gen.facts, Cert.NormIdeal.Gen.facts, Cert.NormRefIdeal.Gen.facts,
    Cert.ProjS.Gen.facts, Cert.ProjSIdeal.Gen.facts, Cert.ProjSRefIdeal.Gen.facts,
    Cert.NormS.Gen.facts, Cert.NormSIdeal.Gen.facts, Cert.NormSRefIdeal.Gen.facts,
    Cert.Smix.Gen.facts, Cert.SmixIdeal.Gen.facts, Cert.SmixRefIdeal.Gen.facts,
    FfnClaims.frame_p, FfnClaims.frame_pi, FfnClaims.frame_ri,
    ProjClaims.frame_p, ProjClaims.frame_pi, ProjClaims.frame_ri,
    OutClaims.frame_p, OutClaims.frame_pi, OutClaims.frame_ri,
    NormClaims.frame_p, NormClaims.frame_pi, NormClaims.frame_ri,
    ProjSClaims.frame_p, ProjSClaims.frame_pi, ProjSClaims.frame_ri,
    NormSClaims.frame_p, NormSClaims.frame_pi, NormSClaims.frame_ri,
    SmixClaims.frame_p, SmixClaims.frame_pi, SmixClaims.frame_ri,
    FfnClaims.preserves, FfnClaims.algebraic,
    ProjClaims.preserves, ProjClaims.algebraic,
    OutClaims.preserves, OutClaims.algebraic,
    NormClaims.preserves, NormClaims.algebraic,
    ProjSClaims.preserves, ProjSClaims.algebraic,
    NormSClaims.preserves, NormSClaims.algebraic,
    SmixClaims.preserves, SmixClaims.algebraic⟩

end Cert.Proof

end
